-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)) →
    ∃ (v0 : (c : Dev Cert.Kernel2Ideal.nD) → Buf (Elt Ideal) ((c.tc : Thread Cert.Kernel2Ideal.nD Cert.Kernel2Ideal.τ).loc Cert.Kernel2Ideal.main_v41_0)) (v1 : (c : Dev Cert.Kernel2Ideal.nD) → Buf (Elt Ideal) ((c.tc : Thread Cert.Kernel2Ideal.nD Cert.Kernel2Ideal.τ).loc Cert.Kernel2Ideal.main_v41_1)) (v2 : (c : Dev Cert.Kernel2Ideal.nD) → Buf (Elt Ideal) ((c.tc : Thread Cert.Kernel2Ideal.nD Cert.Kernel2Ideal.τ).loc Cert.Kernel2Ideal.main_v41_2)) (v3 : (c : Dev Cert.Kernel2Ideal.nD) → Buf (Elt Ideal) ((c.tc : Thread Cert.Kernel2Ideal.nD Cert.Kernel2Ideal.τ).loc Cert.Kernel2Ideal.main_v41_3)) (v4 : (c : Dev Cert.Kernel2Ideal.nD) → Buf (Elt Ideal) ((c.tc : Thread Cert.Kernel2Ideal.nD Cert.Kernel2Ideal.τ).loc Cert.Kernel2Ideal.main_v41_4)) (v5 : (c : Dev Cert.Kernel2Ideal.nD) → Buf (Elt Ideal) ((c.tc : Thread Cert.Kernel2Ideal.nD Cert.Kernel2Ideal.τ).loc Cert.Kernel2Ideal.main_v41_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41_0) = v0 c
          ∧ r.2.mem ((c.tc : Thread Cert.Kernel2Ideal.nD Cert.Kernel2Ideal.τ).loc Cert.Kernel2Ideal.main_v41_1) = v1 c
          ∧ r.2.mem ((c.tc : Thread Cert.Kernel2Ideal.nD Cert.Kernel2Ideal.τ).loc Cert.Kernel2Ideal.main_v41_2) = v2 c
          ∧ r.2.mem ((c.tc : Thread Cert.Kernel2Ideal.nD Cert.Kernel2Ideal.τ).loc Cert.Kernel2Ideal.main_v41_3) = v3 c
          ∧ r.2.mem ((c.tc : Thread Cert.Kernel2Ideal.nD Cert.Kernel2Ideal.τ).loc Cert.Kernel2Ideal.main_v41_4) = v4 c
          ∧ r.2.mem ((c.tc : Thread Cert.Kernel2Ideal.nD Cert.Kernel2Ideal.τ).loc Cert.Kernel2Ideal.main_v41_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_v80) = v4 c
          ∧ r.2.mem ((c.tc : Thread Cert.Reference2Ideal.nD Cert.Reference2Ideal.τ).loc Cert.Reference2Ideal.main_v81) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S32768x1024 : Shape := ⟨2, ![32768, 1024]⟩
abbrev S32768x512 : Shape := ⟨2, ![32768, 512]⟩
abbrev S2x8x4096x256 : Shape := ⟨4, ![2, 8, 4096, 256]⟩
abbrev S1024 : Shape := ⟨1, ![1024]⟩
abbrev S2048x1024 : Shape := ⟨2, ![2048, 1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x512 : Shape := ⟨2, ![512, 512]⟩
abbrev S1x1x512x256 : Shape := ⟨4, ![1, 1, 512, 256]⟩
abbrev S256x512 : Shape := ⟨2, ![256, 512]⟩
abbrev S1x1x256x256 : Shape := ⟨4, ![1, 1, 256, 256]⟩
abbrev S256x256 : Shape := ⟨2, ![256, 256]⟩
abbrev S256 : Shape := ⟨1, ![256]⟩
abbrev S256x1 : Shape := ⟨2, ![256, 1]⟩
abbrev S256x2816 : Shape := ⟨2, ![256, 2816]⟩

abbrev nBuf : Space → Nat
  | .hbm => 27
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x1024, .bf16⟩
  | .hbm, ⟨4, _⟩ => ⟨S2x8x4096x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024x1024, .f32⟩
  | .hbm, ⟨13, _⟩ => ⟨S256x1024, .f32⟩
  | .hbm, ⟨14, _⟩ => ⟨S2048x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1024x2816, .bf16⟩
  | .hbm, ⟨22, _⟩ => ⟨S1024x2816, .bf16⟩
  | .hbm, ⟨23, _⟩ => ⟨S2816x1024, .bf16⟩
  | .hbm, ⟨24, _⟩ => ⟨S1024x1024, .bf16⟩
  | .hbm, ⟨25, _⟩ => ⟨S256x1024, .bf16⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1x512x256, .f32⟩
  | .local _ .vmem, ⟨9, _⟩ => ⟨S1x1x512x256, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S1024x1024, .bf16⟩
  | .local _ .vmem, ⟨20, _⟩ => ⟨S256x1024, .bf16⟩
  | .local _ .vmem, ⟨21, _⟩ => ⟨S512x1024, .f32⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S32768x1024 : Shape := ⟨2, ![32768, 1024]⟩
abbrev S32768x512 : Shape := ⟨2, ![32768, 512]⟩
abbrev S2x8x4096x256 : Shape := ⟨4, ![2, 8, 4096, 256]⟩
abbrev S1024 : Shape := ⟨1, ![1024]⟩
abbrev S2048x1024 : Shape := ⟨2, ![2048, 1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩
abbrev S1x8x4096x256 : Shape := ⟨4, ![1, 8, 4096, 256]⟩
abbrev S8x4096x256 : Shape := ⟨3, ![8, 4096, 256]⟩
abbrev S32768x256 : Shape := ⟨2, ![32768, 256]⟩

abbrev nBuf : Space → Nat
  | .hbm => 97
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x1024, .bf16⟩
  | .hbm, ⟨4, _⟩ => ⟨S2x8x4096x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024x1024, .f32⟩
  | .hbm, ⟨13, _⟩ => ⟨S256x1024, .f32⟩
  | .hbm, ⟨14, _⟩ => ⟨S32768x512, .f32⟩
  | .hbm, ⟨15, _⟩ => ⟨S32768x512, .f32⟩
  | .hbm, ⟨16, _⟩ => ⟨S32768x1024, .f32⟩
  | .hbm, ⟨17, _⟩ => ⟨S32768x2048, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S32768x2816, .f32⟩
  | .hbm, ⟨53, _⟩ => ⟨S32768x2816, .f32⟩
  | .hbm, ⟨54, _⟩ => ⟨S32768x2816, .f32⟩
  | .hbm, ⟨55, _⟩ => ⟨S_, .f32⟩
  | .hbm, ⟨56, _⟩ => ⟨S32768x2816, .f32⟩
  | .hbm, ⟨57, _⟩ => ⟨S32768x2816, .f32⟩
  | .hbm, ⟨58, _⟩ => ⟨S_, .f32⟩
  | .hbm, ⟨59, _⟩ => ⟨S32768x2816, .f32⟩
  | .hbm, ⟨60, _⟩ => ⟨S32768x2816, .f32⟩
  | .hbm, ⟨61, _⟩ => ⟨S32768x2816, .f32⟩
  | .hbm, ⟨62, _⟩ => ⟨S32768x2816, .f32⟩
  | .hbm, ⟨63, _⟩ => ⟨S32768x2816, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768, .f32⟩
  | .hbm, ⟨68, _⟩ => ⟨S32768x1, .f32⟩
  | .hbm, ⟨69, _⟩ => ⟨S_, .f32⟩
  | .hbm, ⟨70, _⟩ => ⟨S32768x1, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S32768x1, .f32⟩
  | .hbm, ⟨76, _⟩ => ⟨S32768x1024, .f32⟩
  | .hbm, ⟨77, _⟩ => ⟨S32768x1024, .f32⟩
  | .hbm, ⟨78, _⟩ => ⟨S1x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S_, .f32⟩
  | .hbm, ⟨86, _⟩ => ⟨S32768x1024, .f32⟩
  | .hbm, ⟨87, _⟩ => ⟨S32768x1024, .f32⟩
  | .hbm, ⟨88, _⟩ => ⟨S_, .f32⟩
  | .hbm, ⟨89, _⟩ => ⟨S32768x1024, .f32⟩
  | .hbm, ⟨90, _⟩ => ⟨S32768x1024, .f32⟩
  | .hbm, ⟨91, _⟩ => ⟨S1x8x4096x256, .f32⟩
  | .hbm, ⟨92, _⟩ => ⟨S8x4096x256, .f32⟩
  | .hbm, ⟨93, _⟩ => ⟨S32768x256, .f32⟩
  | .hbm, ⟨94, _⟩ => ⟨S32768x1024, .f32⟩
  | .hbm, ⟨95, _⟩ => ⟨S32768x1024, .f32⟩
  | .hbm, ⟨96, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S256 : Shape := ⟨1, ![256]⟩
abbrev S64 : Shape := ⟨1, ![64]⟩
abbrev S1024x512 : Shape := ⟨2, ![1024, 512]⟩
abbrev S1024x256 : Shape := ⟨2, ![1024, 256]⟩
abbrev S1024x128 : Shape := ⟨2, ![1024, 128]⟩
abbrev S1024x1536 : Shape := ⟨2, ![1024, 1536]⟩
abbrev S1024x1024 : Shape := ⟨2, ![1024, 1024]⟩
abbrev S256x8x64 : Shape := ⟨3, ![256, 8, 64]⟩
abbrev S3x512 : Shape := ⟨2, ![3, 512]⟩
abbrev S4x1536 : Shape := ⟨2, ![4, 1536]⟩
abbrev S1536 : Shape := ⟨1, ![1536]⟩
abbrev S16 : Shape := ⟨1, ![16]⟩
abbrev S640x1 : Shape := ⟨2, ![640, 1]⟩
abbrev S8x64x256 : Shape := ⟨3, ![8, 64, 256]⟩
abbrev S_ : Shape := ⟨0, ![]⟩
abbrev S8x80x256 : Shape := ⟨3, ![8, 80, 256]⟩
abbrev S640x256 : Shape := ⟨2, ![640, 256]⟩
abbrev S1024x8 : Shape := ⟨2, ![1024, 8]⟩
abbrev S8x1024 : Shape := ⟨2, ![8, 1024]⟩
abbrev S1024x16 : Shape := ⟨2, ![1024, 16]⟩
abbrev S16x1024 : Shape := ⟨2, ![16, 1024]⟩
abbrev S1x1024 : Shape := ⟨2, ![1, 1024]⟩
abbrev S1x256 : Shape := ⟨2, ![1, 256]⟩
abbrev S1x64 : Shape := ⟨2, ![1, 64]⟩
abbrev S512x1024 : Shape := ⟨2, ![512, 1024]⟩
abbrev S256x1024 : Shape := ⟨2, ![256, 1024]⟩
abbrev S16x64 : Shape := ⟨2, ![16, 64]⟩
abbrev S128x128 : Shape := ⟨2, ![128, 128]⟩
abbrev S16x16 : Shape := ⟨2, ![16, 16]⟩
abbrev S16x16x64 : Shape := ⟨3, ![16, 16, 64]⟩
abbrev S1x16x1x1024 : Shape := ⟨4, ![1, 16, 1, 1024]⟩
abbrev S3x16x1x1024 : Shape := ⟨4, ![3, 16, 1, 1024]⟩
abbrev S48x1024 : Shape := ⟨2, ![48, 1024]⟩
abbrev S1x1536 : Shape := ⟨2, ![1, 1536]⟩
abbrev S1x16 : Shape := ⟨2, ![1, 16]⟩
abbrev S16x1 : Shape := ⟨2, ![16, 1]⟩
abbrev S128x512x256 : Shape := ⟨3, ![128, 512, 256]⟩
abbrev S32768x256 : Shape := ⟨2, ![32768, 256]⟩
abbrev S8x16x640x256 : Shape := ⟨4, ![8, 16, 640, 256]⟩
abbrev S128x256x256 : Shape := ⟨3, ![128, 256, 256]⟩
abbrev S128x8x256 : Shape := ⟨3, ![128, 8, 256]⟩
abbrev S32768x64 : Shape := ⟨2, ![32768, 64]⟩
abbrev S32768x512 : Shape := ⟨2, ![32768, 512]⟩
abbrev S4x512x256 : Shape := ⟨3, ![4, 512, 256]⟩
abbrev S1x4x640x256 : Shape := ⟨4, ![1, 4, 640, 256]⟩
abbrev S4x256x256 : Shape := ⟨3, ![4, 256, 256]⟩
abbrev S4x8x256 : Shape := ⟨3, ![4, 8, 256]⟩
abbrev S1024x64 : Shape := ⟨2, ![1024, 64]⟩
abbrev S1032x512 : Shape := ⟨2, ![1032, 512]⟩
abbrev S1032x1536 : Shape := ⟨2, ![1032, 1536]⟩
abbrev S2x128x512 : Shape := ⟨3, ![2, 128, 512]⟩
abbrev S8x512 : Shape := ⟨2, ![8, 512]⟩
abbrev S8x1536 : Shape := ⟨2, ![8, 1536]⟩
abbrev S256x1 : Shape := ⟨2, ![256, 1]⟩
abbrev S256x1536 : Shape := ⟨2, ![256, 1536]⟩
abbrev S256x128 : Shape := ⟨2, ![256, 128]⟩
abbrev S256x16 : Shape := ⟨2, ![256, 16]⟩
abbrev S16x256 : Shape := ⟨2, ![16, 256]⟩
abbrev S256x512 : Shape := ⟨2, ![256, 512]⟩
abbrev S1x512 : Shape := ⟨2, ![1, 512]⟩
abbrev S256x256 : Shape := ⟨2, ![256, 256]⟩
abbrev S128x1536 : Shape := ⟨2, ![128, 1536]⟩
abbrev S128x1024 : Shape := ⟨2, ![128, 1024]⟩
abbrev S128x16 : Shape := ⟨2, ![128, 16]⟩
abbrev S16x128 : Shape := ⟨2, ![16, 128]⟩
abbrev S128x48 : Shape := ⟨2, ![128, 48]⟩
abbrev S1x128x512 : Shape := ⟨3, ![1, 128, 512]⟩
abbrev S128x512 : Shape := ⟨2, ![128, 512]⟩
abbrev S128x1 : Shape := ⟨2, ![128, 1]⟩
abbrev S1x128 : Shape := ⟨2, ![1, 128]⟩
abbrev S128x256 : Shape := ⟨2, ![128, 256]⟩
abbrev S128 : Shape := ⟨1, ![128]⟩
abbrev S256x64 : Shape := ⟨2, ![256, 64]⟩
abbrev S512x256 : Shape := ⟨2, ![512, 256]⟩
abbrev S1x512x256 : Shape := ⟨3, ![1, 512, 256]⟩
abbrev S1x256x256 : Shape := ⟨3, ![1, 256, 256]⟩
abbrev S8x256 : Shape := ⟨2, ![8, 256]⟩
abbrev S1x8x256 : Shape := ⟨3, ![1, 8, 256]⟩
abbrev S1x1x640x256 : Shape := ⟨4, ![1, 1, 640, 256]⟩

abbrev nBuf : Space → Nat
  | .hbm => 92
  | .vmem => 49
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S256, .f32⟩
  | .hbm, ⟨3, _⟩ => ⟨S64, .f32⟩
  | .hbm, ⟨4, _⟩ => ⟨S64, .f32⟩
  | .hbm, ⟨5, _⟩ => ⟨S1024x512, .bf16⟩
  | .hbm, ⟨6, _⟩ => ⟨S1024x256, .bf16⟩
  | .hbm, ⟨7, _⟩ => ⟨S1024x256, .bf16⟩
  | .hbm, ⟨8, _⟩ => ⟨S1024x128, .bf16⟩
  | .hbm, ⟨9, _⟩ => ⟨S1024x1536, .bf16⟩
  | .hbm, ⟨10, _⟩ => ⟨S1024x1024, .bf16⟩
  | .hbm, ⟨11, _⟩ => ⟨S1024x1536, .bf16⟩
  | .hbm, ⟨12, _⟩ => ⟨S1024x128, .bf16⟩
  | .hbm, ⟨13, _⟩ => ⟨S256x8x64, .f32⟩
  | .hbm, ⟨14, _⟩ => ⟨S3x512, .f32⟩
  | .hbm, ⟨15, _⟩ => ⟨S4x1536, .f32⟩
  | .hbm, ⟨16, _⟩ => ⟨S1536, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S1024, .f32⟩
  | .hbm, ⟨21, _⟩ => ⟨S640x1, .f32⟩
  | .hbm, ⟨22, _⟩ => ⟨S8x64x256, .f32⟩
  | .hbm, ⟨23, _⟩ => ⟨S8x64x256, .bf16⟩
  | .hbm, ⟨24, _⟩ => ⟨S_, .i32⟩
  | .hbm, ⟨25, _⟩ => ⟨S_, .bf16⟩
  | .hbm, ⟨26, _⟩ => ⟨S8x80x256, .bf16⟩
  | .hbm, ⟨27, _⟩ => ⟨S640x256, .bf16⟩
  | .hbm, ⟨28, _⟩ => ⟨S1024x8, .bf16⟩
  | .hbm, ⟨29, _⟩ => ⟨S8x1024, .bf16⟩
  | .hbm, ⟨30, _⟩ => ⟨S1024x16, .bf16⟩
  | .hbm, ⟨31, _⟩ => ⟨S16x1024, .bf16⟩
  | .hbm, ⟨32, _⟩ => ⟨S1x1024, .f32⟩
  | .hbm, ⟨33, _⟩ => ⟨S1x256, .f32⟩
  | .hbm, ⟨34, _⟩ => ⟨S1x64, .f32⟩
  | .hbm, ⟨35, _⟩ => ⟨S1x64, .f32⟩
  | .hbm, ⟨36, _⟩ => ⟨S512x1024, .bf16⟩
  | .hbm, ⟨37, _⟩ => ⟨S256x1024, .bf16⟩
  | .hbm, ⟨38, _⟩ => ⟨S16x64, .f32⟩
  | .hbm, ⟨39, _⟩ => ⟨S1024, .f32⟩
  | .hbm, ⟨40, _⟩ => ⟨S_, .f32⟩
  | .hbm, ⟨41, _⟩ => ⟨S128x128, .f32⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S128x128, .bf16⟩
  | .hbm, ⟨52, _⟩ => ⟨S_, .f32⟩
  | .hbm, ⟨53, _⟩ => ⟨S128x128, .f32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S128x128, .bf16⟩
  | .hbm, ⟨64, _⟩ => ⟨S16x16, .i32⟩
  | .hbm, ⟨65, _⟩ => ⟨S16x16, .i32⟩
  | .hbm, ⟨66, _⟩ => ⟨S_, .i32⟩
  | .hbm, ⟨67, _⟩ => ⟨S16x16, .i32⟩
  | .hbm, ⟨68, _⟩ => ⟨S16x16, .i32⟩
  | .hbm, ⟨69, _⟩ => ⟨S16x16, .i1⟩
  | .hbm, ⟨70, _⟩ => ⟨S16x16, .f32⟩
  | .hbm, ⟨71, _⟩ => ⟨S16x16x64, .f32⟩
  | .hbm, ⟨72, _⟩ => ⟨S16x1024, .f32⟩
  | .hbm, ⟨73, _⟩ => ⟨S1x16x1x1024, .f32⟩
  | .hbm, ⟨74, _⟩ => ⟨S3x16x1x1024, .f32⟩
  | .hbm, ⟨75, _⟩ => ⟨S48x1024, .f32⟩
  | .hbm, ⟨76, _⟩ => ⟨S48x1024, .bf16⟩
  | .hbm, ⟨77, _⟩ => ⟨S1x1536, .f32⟩
  | .hbm, ⟨78, _⟩ => ⟨S1x16, .f32⟩
  | .hbm, ⟨79, _⟩ => ⟨S16x1, .f32⟩
  | .hbm, ⟨80, _⟩ => ⟨S1x16, .f32⟩
  | .hbm, ⟨81, _⟩ => ⟨S16x1, .f32⟩
  | .hbm, ⟨82, _⟩ => ⟨S1x1024, .f32⟩
  | .hbm, ⟨83, _⟩ => ⟨S1x1024, .f32⟩
  | .hbm, ⟨84, _⟩ => ⟨S128x512x256, .bf16⟩
  | .hbm, ⟨85, _⟩ => ⟨S32768x256, .bf16⟩
  | .hbm, ⟨86, _⟩ => ⟨S8x16x640x256, .bf16⟩
  | .hbm, ⟨87, _⟩ => ⟨S128x256x256, .bf16⟩
  | .hbm, ⟨88, _⟩ => ⟨S128x8x256, .f32⟩
  | .hbm, ⟨89, _⟩ => ⟨S32768x64, .bf16⟩
  | .hbm, ⟨90, _⟩ => ⟨S32768x512, .bf16⟩
  | .hbm, ⟨91, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x256, .f32⟩
  | .local _ .vmem, ⟨4, _⟩ => ⟨S1x64, .f32⟩
  | .local _ .vmem, ⟨5, _⟩ => ⟨S1x64, .f32⟩
  | .local _ .vmem, ⟨6, _⟩ => ⟨S512x1024, .bf16⟩
  | .local _ .vmem, ⟨7, _⟩ => ⟨S1024x256, .bf16⟩
  | .local _ .vmem, ⟨8, _⟩ => ⟨S256x1024, .bf16⟩
  | .local _ .vmem, ⟨9, _⟩ => ⟨S1024x128, .bf16⟩
  | .local _ .vmem, ⟨10, _⟩ => ⟨S8x1024, .bf16⟩
  | .local _ .vmem, ⟨11, _⟩ => ⟨S1024x1536, .bf16⟩
  | .local _ .vmem, ⟨12, _⟩ => ⟨S1024x1024, .bf16⟩
  | .local _ .vmem, ⟨13, _⟩ => ⟨S1024x1536, .bf16⟩
  | .local _ .vmem, ⟨14, _⟩ => ⟨S1024x128, .bf16⟩
  | .local _ .vmem, ⟨15, _⟩ => ⟨S16x1024, .bf16⟩
  | .local _ .vmem, ⟨16, _⟩ => ⟨S640x256, .bf16⟩
  | .local _ .vmem, ⟨17, _⟩ => ⟨S640x1, .f32⟩
  | .local _ .vmem, ⟨18, _⟩ => ⟨S3x512, .f32⟩
  | .local _ .vmem, ⟨19, _⟩ => ⟨S4x1536, .f32⟩
  | .local _ .vmem, ⟨20, _⟩ => ⟨S1x1536, .f32⟩
  | .local _ .vmem, ⟨21, _⟩ => ⟨S1x16, .f32⟩
  | .local _ .vmem, ⟨22, _⟩ => ⟨S16x1, .f32⟩
  | .local _ .vmem, ⟨23, _⟩ => ⟨S1x16, .f32⟩
  | .local _ .vmem, ⟨24, _⟩ => ⟨S16x1, .f32⟩
  | .local _ .vmem, ⟨25, _⟩ => ⟨S1x1024, .f32⟩
  | .local _ .vmem, ⟨26, _⟩ => ⟨S1x1024, .f32⟩
  | .local _ .vmem, ⟨27, _⟩ => ⟨S128x128, .bf16⟩
  | .local _ .vmem, ⟨28, _⟩ => ⟨S128x128, .bf16⟩
  | .local _ .vmem, ⟨29, _⟩ => ⟨S48x1024, .bf16⟩
  | .local _ .vmem, ⟨30, _⟩ => ⟨S4x512x256, .bf16⟩
  | .local _ .vmem, ⟨31, _⟩ => ⟨S4x512x256, .bf16⟩
  | .local _ .vmem, ⟨32, _⟩ => ⟨S1024x256, .bf16⟩
  | .local _ .vmem, ⟨33, _⟩ => ⟨S1024x256, .bf16⟩
  | .local _ .vmem, ⟨34, _⟩ => ⟨S1x4x640x256, .bf16⟩
  | .local _ .vmem, ⟨35, _⟩ => ⟨S1x4x640x256, .bf16⟩
  | .local _ .vmem, ⟨36, _⟩ => ⟨S4x256x256, .bf16⟩
  | .local _ .vmem, ⟨37, _⟩ => ⟨S4x256x256, .bf16⟩
  | .local _ .vmem, ⟨38, _⟩ => ⟨S4x8x256, .f32⟩
  | .local _ .vmem, ⟨39, _⟩ => ⟨S4x8x256, .f32⟩
  | .local _ .vmem, ⟨40, _⟩ => ⟨S1024x64, .bf16⟩
  | .local _ .vmem, ⟨41, _⟩ => ⟨S1024x64, .bf16⟩
  | .local _ .vmem, ⟨42, _⟩ => ⟨S1024x512, .bf16⟩
  | .local _ .vmem, ⟨43, _⟩ => ⟨S1024x512, .bf16⟩
  | .local _ .vmem, ⟨44, _⟩ => ⟨S1024x1024, .bf16⟩
  | .local _ .vmem, ⟨45, _⟩ => ⟨S1024x1024, .bf16⟩
  | .local _ .vmem, ⟨46, _⟩ => ⟨S1032x512, .f32⟩
  | .local _ .vmem, ⟨47, _⟩ => ⟨S1032x1536, .f32⟩
  | .local _ .vmem, ⟨48, _⟩ => ⟨S2x128x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_call0_v0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_cst : Ref sig .tc := ⟨.hbm, 48, rfl⟩
abbrev main_call1_v5 : Ref sig .tc := ⟨.hbm, 49, rfl⟩
abbrev main_v17 : Ref sig .tc := ⟨.hbm, 50, rfl⟩
abbrev main_v18 : Ref sig .tc := ⟨.hbm, 51, rfl⟩
abbrev main_cst_1 : Ref sig .tc := ⟨.hbm, 52, rfl⟩
abbrev main_v19 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_cst : Ref sig .tc := ⟨.hbm, 60, rfl⟩
abbrev main_call2_v5 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_c_2 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41_0 : Ref sig .tc := ⟨.hbm, 84, rfl⟩
abbrev main_v41_1 : Ref sig .tc := ⟨.hbm, 85, rfl⟩
abbrev main_v41_2 : Ref sig .tc := ⟨.hbm, 86, rfl⟩
abbrev main_v41_3 : Ref sig .tc := ⟨.hbm, 87, rfl⟩
abbrev main_v41_4 : Ref sig .tc := ⟨.hbm, 88, rfl⟩
abbrev main_v41_5 : Ref sig .tc := ⟨.hbm, 89, rfl⟩
abbrev main_v41_6 : Ref sig .tc := ⟨.hbm, 90, rfl⟩
abbrev main_v41_7 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg29_1 : Ref sig .tc := ⟨.vmem, 31, rfl⟩
abbrev cc0_stg30_0 : Ref sig .tc := ⟨.vmem, 32, rfl⟩
abbrev cc0_stg30_1 : Ref sig .tc := ⟨.vmem, 33, rfl⟩
abbrev cc0_stg31_0 : Ref sig .tc := ⟨.vmem, 34, rfl⟩
abbrev cc0_stg31_1 : Ref sig .tc := ⟨.vmem, 35, rfl⟩
abbrev cc0_stg32_0 : Ref sig .tc := ⟨.vmem, 36, rfl⟩
abbrev cc0_stg32_1 : Ref sig .tc := ⟨.vmem, 37, rfl⟩
abbrev cc0_stg33_0 : Ref sig .tc := ⟨.vmem, 38, rfl⟩
abbrev cc0_stg33_1 : Ref sig .tc := ⟨.vmem, 39, rfl⟩
abbrev cc0_stg34_0 : Ref sig .tc := ⟨.vmem, 40, rfl⟩
abbrev cc0_stg34_1 : Ref sig .tc := ⟨.vmem, 41, rfl⟩
abbrev cc0_stg35_0 : Ref sig .tc := ⟨.vmem, 42, rfl⟩
abbrev cc0_stg35_1 : Ref sig .tc := ⟨.vmem, 43, rfl⟩
abbrev cc0_stg36_0 : Ref sig .tc := ⟨.vmem, 44, rfl⟩
abbrev cc0_stg36_1 : Ref sig .tc := ⟨.vmem, 45, rfl⟩
abbrev cc0_scratch0 : Ref sig .tc := ⟨.vmem, 46, rfl⟩
abbrev cc0_scratch1 : Ref sig .tc := ⟨.vmem, 47, rfl⟩
abbrev cc0_scratch2 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem29_1 : DmaSem sig := 31
abbrev cc0_sem30_0 : DmaSem sig := 32
abbrev cc0_sem30_1 : DmaSem sig := 33
abbrev cc0_sem31_0 : DmaSem sig := 34
abbrev cc0_sem31_1 : DmaSem sig := 35
abbrev cc0_sem32_0 : DmaSem sig := 36
abbrev cc0_sem32_1 : DmaSem sig := 37
abbrev cc0_sem33_0 : DmaSem sig := 38
abbrev cc0_sem33_1 : DmaSem sig := 39
abbrev cc0_sem34_0 : DmaSem sig := 40
abbrev cc0_sem34_1 : DmaSem sig := 41
abbrev cc0_sem35_0 : DmaSem sig := 42
abbrev cc0_sem35_1 : DmaSem sig := 43
abbrev cc0_sem36_0 : DmaSem sig := 44
abbrev cc0_sem36_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_33 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S640x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S640x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1536 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x16 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S16x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x128 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x128 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S48x1024 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S4x512x256 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1024x256 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x4x640x256 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S4x256x256 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S4x8x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1024x64 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1024x512 .bf16 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1024x1024 .bf16 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]
-- ==== Reference2Ideal.lean ====
abbrev S32768x1024 : Shape := ⟨2, ![32768, 1024]⟩
abbrev S1024 : Shape := ⟨1, ![1024]⟩
abbrev S256 : Shape := ⟨1, ![256]⟩
abbrev S64 : Shape := ⟨1, ![64]⟩
abbrev S1024x512 : Shape := ⟨2, ![1024, 512]⟩
abbrev S1024x256 : Shape := ⟨2, ![1024, 256]⟩
abbrev S1024x128 : Shape := ⟨2, ![1024, 128]⟩
abbrev S1024x1536 : Shape := ⟨2, ![1024, 1536]⟩
abbrev S1024x1024 : Shape := ⟨2, ![1024, 1024]⟩
abbrev S256x8x64 : Shape := ⟨3, ![256, 8, 64]⟩
abbrev S3x512 : Shape := ⟨2, ![3, 512]⟩
abbrev S4x1536 : Shape := ⟨2, ![4, 1536]⟩
abbrev S1536 : Shape := ⟨1, ![1536]⟩
abbrev S16 : Shape := ⟨1, ![16]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x512 : Shape := ⟨2, ![32768, 512]⟩
abbrev S32768x256 : Shape := ⟨2, ![32768, 256]⟩
abbrev S32768x128 : Shape := ⟨2, ![32768, 128]⟩
abbrev S32768x8 : Shape := ⟨2, ![32768, 8]⟩
abbrev S1x256 : Shape := ⟨2, ![1, 256]⟩
abbrev S32768x64 : Shape := ⟨2, ![32768, 64]⟩
abbrev S1x64 : Shape := ⟨2, ![1, 64]⟩
abbrev S32768x8x64 : Shape := ⟨3, ![32768, 8, 64]⟩
abbrev S32768x8x1 : Shape := ⟨3, ![32768, 8, 1]⟩
abbrev S32768x8x15 : Shape := ⟨3, ![32768, 8, 15]⟩
abbrev S32768x8x80 : Shape := ⟨3, ![32768, 8, 80]⟩
abbrev S128x256x512 : Shape := ⟨3, ![128, 256, 512]⟩
abbrev S128x512x256 : Shape := ⟨3, ![128, 512, 256]⟩
abbrev S128x256x640 : Shape := ⟨3, ![128, 256, 640]⟩
abbrev S128x640x256 : Shape := ⟨3, ![128, 640, 256]⟩
abbrev S8x16x640x256 : Shape := ⟨4, ![8, 16, 640, 256]⟩
abbrev S128x256x256 : Shape := ⟨3, ![128, 256, 256]⟩
abbrev S128x256x8 : Shape := ⟨3, ![128, 256, 8]⟩
abbrev S128x8x256 : Shape := ⟨3, ![128, 8, 256]⟩

abbrev nBuf : Space → Nat
  | .hbm => 118
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S256, .f32⟩
  | .hbm, ⟨3, _⟩ => ⟨S64, .f32⟩
  | .hbm, ⟨4, _⟩ => ⟨S64, .f32⟩
  | .hbm, ⟨5, _⟩ => ⟨S1024x512, .bf16⟩
  | .hbm, ⟨6, _⟩ => ⟨S1024x256, .bf16⟩
  | .hbm, ⟨7, _⟩ => ⟨S1024x256, .bf16⟩
  | .hbm, ⟨8, _⟩ => ⟨S1024x128, .bf16⟩
  | .hbm, ⟨9, _⟩ => ⟨S1024x1536, .bf16⟩
  | .hbm, ⟨10, _⟩ => ⟨S1024x1024, .bf16⟩
  | .hbm, ⟨11, _⟩ => ⟨S1024x1536, .bf16⟩
  | .hbm, ⟨12, _⟩ => ⟨S1024x128, .bf16⟩
  | .hbm, ⟨13, _⟩ => ⟨S256x8x64, .f32⟩
  | .hbm, ⟨14, _⟩ => ⟨S3x512, .f32⟩
  | .hbm, ⟨15, _⟩ => ⟨S4x1536, .f32⟩
  | .hbm, ⟨16, _⟩ => ⟨S1536, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1024x512, .f32⟩
  | .hbm, ⟨38, _⟩ => ⟨S32768x512, .f32⟩
  | .hbm, ⟨39, _⟩ => ⟨S1024x256, .f32⟩
  | .hbm, ⟨40, _⟩ => ⟨S32768x256, .f32⟩
  | .hbm, ⟨41, _⟩ => ⟨S1024x256, .f32⟩
  | .hbm, ⟨42, _⟩ => ⟨S32768x256, .f32⟩
  | .hbm, ⟨43, _⟩ => ⟨S1024x128, .f32⟩
  | .hbm, ⟨44, _⟩ => ⟨S32768x128, .f32⟩
  | .hbm, ⟨45, _⟩ => ⟨S_, .f32⟩
  | .hbm, ⟨46, _⟩ => ⟨S32768x256, .f32⟩
  | .hbm, ⟨47, _⟩ => ⟨S32768x256, .f32⟩
  | .hbm, ⟨48, _⟩ => ⟨S32768x8, .f32⟩
  | .hbm, ⟨49, _⟩ => ⟨S_, .f32⟩
  | .hbm, ⟨50, _⟩ => ⟨S32768x8, .f32⟩
  | .hbm, ⟨51, _⟩ => ⟨S32768x8, .f32⟩
  | .hbm, ⟨52, _⟩ => ⟨S32768x256, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x256, .f32⟩
  | .hbm, ⟨64, _⟩ => ⟨S32768x256, .f32⟩
  | .hbm, ⟨65, _⟩ => ⟨S1x256, .f32⟩
  | .hbm, ⟨66, _⟩ => ⟨S32768x256, .f32⟩
  | .hbm, ⟨67, _⟩ => ⟨S32768x256, .f32⟩
  | .hbm, ⟨68, _⟩ => ⟨S32768x64, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S32768x64, .f32⟩
  | .hbm, ⟨76, _⟩ => ⟨S32768x64, .f32⟩
  | .hbm, ⟨77, _⟩ => ⟨S32768x64, .f32⟩
  | .hbm, ⟨78, _⟩ => ⟨S_, .f32⟩
  | .hbm, ⟨79, _⟩ => ⟨S32768, .f32⟩
  | .hbm, ⟨80, _⟩ => ⟨S32768x1, .f32⟩
  | .hbm, ⟨81, _⟩ => ⟨S_, .f32⟩
  | .hbm, ⟨82, _⟩ => ⟨S32768x1, .f32⟩
  | .hbm, ⟨83, _⟩ => ⟨S32768x1, .f32⟩
  | .hbm, ⟨84, _⟩ => ⟨S32768x64, .f32⟩
  | .hbm, ⟨85, _⟩ => ⟨S32768x64, .f32⟩
  | .hbm, ⟨86, _⟩ => ⟨S_, .f32⟩
  | .hbm, ⟨87, _⟩ => ⟨S32768x1, .f32⟩
  | .hbm, ⟨88, _⟩ => ⟨S32768x1, .f32⟩
  | .hbm, ⟨89, _⟩ => ⟨S32768x1, .f32⟩
  | .hbm, ⟨90, _⟩ => ⟨S32768x64, .f32⟩
  | .hbm, ⟨91, _⟩ => ⟨S32768x64, .f32⟩
  | .hbm, ⟨92, _⟩ => ⟨S1x64, .f32⟩
  | .hbm, ⟨93, _⟩ => ⟨S32768x64, .f32⟩
  | .hbm, ⟨94, _⟩ => ⟨S32768x64, .f32⟩
  | .hbm, ⟨95, _⟩ => ⟨S1x64, .f32⟩
  | .hbm, ⟨96, _⟩ => ⟨S32768x64, .f32⟩
  | .hbm, ⟨97, _⟩ => ⟨S32768x64, .f32⟩
  | .hbm, ⟨98, _⟩ => ⟨S32768x8x64, .f32⟩
  | .hbm, ⟨99, _⟩ => ⟨S_, .f32⟩
  | .hbm, ⟨100, _⟩ => ⟨S32768x8x1, .f32⟩
  | .hbm, ⟨101, _⟩ => ⟨S_, .f32⟩
  | .hbm, ⟨102, _⟩ => ⟨S32768x8x15, .f32⟩
  | .hbm, ⟨103, _⟩ => ⟨S32768x8x80, .f32⟩
  | .hbm, ⟨104, _⟩ => ⟨S128x256x512, .f32⟩
  | .hbm, ⟨105, _⟩ => ⟨S128x512x256, .f32⟩
  | .hbm, ⟨106, _⟩ => ⟨S128x512x256, .bf16⟩
  | .hbm, ⟨107, _⟩ => ⟨S32768x256, .bf16⟩
  | .hbm, ⟨108, _⟩ => ⟨S128x256x640, .f32⟩
  | .hbm, ⟨109, _⟩ => ⟨S128x640x256, .f32⟩
  | .hbm, ⟨110, _⟩ => ⟨S128x640x256, .bf16⟩
  | .hbm, ⟨111, _⟩ => ⟨S8x16x640x256, .bf16⟩
  | .hbm, ⟨112, _⟩ => ⟨S128x256x256, .f32⟩
  | .hbm, ⟨113, _⟩ => ⟨S128x256x256, .f32⟩
  | .hbm, ⟨114, _⟩ => ⟨S128x256x256, .bf16⟩
  | .hbm, ⟨115, _⟩ => ⟨S128x256x8, .f32⟩
  | .hbm, ⟨116, _⟩ => ⟨S128x8x256, .f32⟩
  | .hbm, ⟨117, _⟩ => ⟨S32768x64, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_cst_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]
-- ==== Proof.DenseSpec.lean ====
/-
  The dense tail of the layer, written for one token: the functions of one row that both the kernel and the reference are shown to compute.
-/
module

public import Idealize.ShloMosaic.PureOps.Ideal
public import Idealize.ShloMosaic.Lib.Pointwise

@[expose] public section

noncomputable section

open Idealize.ShloMosaic
open scoped BigOperators

namespace Cert.Dense

/-- A row times a matrix. -/
def rowMul {K N : Nat} (x : Fin K → EReal) (W : Fin K → Fin N → EReal) (j : Fin N) : EReal := ∑ k, x k * W k j

/-- The RMS normalisation of a row of 1024 numbers, scaled by `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The logistic function as both programs spell it. -/
def logistic (z : EReal) : EReal := Ideal.div 1 (1 + Ideal.exp (-z))

/-- The gated feed-forward layer of a row. -/
def ffn (h : Fin 1024 → EReal) (wg wu : Fin 1024 → Fin 2816 → EReal) (wd : Fin 2816 → Fin 1024 → EReal) : Fin 1024 → EReal :=
  rowMul (fun k => rowMul h wg k * logistic (rowMul h wg k) * rowMul h wu k) wd

/-- The three mixers' outputs of a token, side by side, times the output projection, whose rows come in three pieces. -/
def mix (a b : Fin 512 → EReal) (c : Fin 1024 → EReal) (wa wb : Fin 512 → Fin 1024 → EReal) (wc : Fin 1024 → Fin 1024 → EReal)
    (j : Fin 1024) : EReal :=
  rowMul a wa j + rowMul b wb j + rowMul c wc j

/-- The residual stream after the mixers. -/
def afterMix (x m g : Fin 1024 → EReal) (j : Fin 1024) : EReal := x j + rms m g j

/-- The residual stream after the feed-forward layer. -/
def afterFfn (x gp gf : Fin 1024 → EReal) (wg wu : Fin 1024 → Fin 2816 → EReal) (wd : Fin 2816 → Fin 1024 → EReal)
    (j : Fin 1024) : EReal :=
  x j + rms (ffn (rms x gp) wg wu wd) gf j

/-- The gated per-layer embedding added last. -/
def afterPle (x : Fin 1024 → EReal) (p : Fin 256 → EReal) (wpg : Fin 1024 → Fin 1024 → EReal) (wpp : Fin 256 → Fin 1024 → EReal)
    (j : Fin 1024) : EReal :=
  x j + logistic (rowMul x wpg j) * rowMul p wpp j

/-- One token's row through the whole tail. -/
def tail (x : Fin 1024 → EReal) (a b : Fin 512 → EReal) (c : Fin 1024 → EReal) (p : Fin 256 → EReal) (gm gp gf : Fin 1024 → EReal)
    (wa wb : Fin 512 → Fin 1024 → EReal) (wc : Fin 1024 → Fin 1024 → EReal) (wg wu : Fin 1024 → Fin 2816 → EReal)
    (wd : Fin 2816 → Fin 1024 → EReal) (wpg : Fin 1024 → Fin 1024 → EReal) (wpp : Fin 256 → Fin 1024 → EReal) : Fin 1024 → EReal :=
  afterPle (afterFfn (afterMix x (mix a b c wa wb wc) gm) gp gf wg wu wd) p wpg wpp

/-- The arguments of the dense tail as plain arrays. -/
structure Args where
  x : (⟨2, ![32768, 1024]⟩ : Shape).Idx → EReal
  a : (⟨2, ![32768, 512]⟩ : Shape).Idx → EReal
  b : (⟨2, ![32768, 512]⟩ : Shape).Idx → EReal
  c : (⟨2, ![32768, 1024]⟩ : Shape).Idx → EReal
  p : (⟨4, ![2, 8, 4096, 256]⟩ : Shape).Idx → EReal
  gm : (⟨1, ![1024]⟩ : Shape).Idx → EReal
  gp : (⟨1, ![1024]⟩ : Shape).Idx → EReal
  gf : (⟨1, ![1024]⟩ : Shape).Idx → EReal
  wo : (⟨2, ![2048, 1024]⟩ : Shape).Idx → EReal
  wg : (⟨2, ![1024, 2816]⟩ : Shape).Idx → EReal
  wu : (⟨2, ![1024, 2816]⟩ : Shape).Idx → EReal
  wd : (⟨2, ![2816, 1024]⟩ : Shape).Idx → EReal
  wpg : (⟨2, ![1024, 1024]⟩ : Shape).Idx → EReal
  wpp : (⟨2, ![256, 1024]⟩ : Shape).Idx → EReal

/-- Row `n` of the result, of the arguments. -/
def tailOf (A : Args) (n : Fin 32768) : Fin 1024 → EReal :=
  tail (fun k => A.x (ix2 n k)) (fun k => A.a (ix2 n k)) (fun k => A.b (ix2 n k)) (fun k => A.c (ix2 n k))
    (fun k => A.p (ix4 0 ⟨n.val / 4096, by omega⟩ ⟨n.val % 4096, by omega⟩ k))
    (fun k => A.gm (ix1 k)) (fun k => A.gp (ix1 k)) (fun k => A.gf (ix1 k))
    (fun k j => A.wo (ix2 ⟨k.val, by omega⟩ j)) (fun k j => A.wo (ix2 ⟨512 + k.val, by omega⟩ j))
    (fun k j => A.wo (ix2 ⟨1024 + k.val, by omega⟩ j))
    (fun k j => A.wg (ix2 k j)) (fun k j => A.wu (ix2 k j)) (fun k j => A.wd (ix2 k j)) (fun k j => A.wpg (ix2 k j))
    (fun k j => A.wpp (ix2 k j))

end Cert.Dense

end
-- ==== Proof.DenseBlock.lean ====
/-
  The kernel's block of 512 tokens read at an index: each of its two halves of 256 rows computes `Dense.tail` of the row's own blocks.
  The payloads are read one by one, as equations between rows; the two halves then come from the same row functions.
-/
module

public import proofs.«01_k».proof.Proof.DenseSpec
public import proofs.«01_k».proof.Proof.Gen.KernelIdeal.Value
public import Idealize.ShloMosaic.Lib.Pipeline.ValueKit

@[expose] public section

set_option maxRecDepth 16384

noncomputable section

open Idealize.ShloMosaic Cert.KernelIdeal Cert.KernelIdeal.Gen Cert.Dense
open scoped BigOperators

namespace Cert.Dense.Block

/-- Row `r` of a matrix. -/
abbrev row {R K : Nat} (v : (⟨2, ![R, K]⟩ : Shape).Idx → EReal) (r : Fin R) : Fin K → EReal := fun k => v (ix2 r k)
/-- A matrix as a function of its two coordinates. -/
abbrev mat {K N : Nat} (v : (⟨2, ![K, N]⟩ : Shape).Idx → EReal) : Fin K → Fin N → EReal := fun k n => v (ix2 k n)

variable (r : Fin 256)

/-- The mixers' projection, first half. -/
theorem pay3_row (a b : Vec Ideal S256x512 .bf16) (c : Vec Ideal S256x1024 .bf16) (wa wb : Vec Ideal S512x1024 .bf16)
    (wc : Vec Ideal S1024x1024 .bf16) :
    row (k0_pay3 a wa b wb c wc) r = mix (row a r) (row b r) (row c r) (mat wa) (mat wb) (mat wc) := by
  funext j
  dsimp only [row, mat]
  pointwise [k0_pay3, mix, rowMul]

/-- The mixers' projection, second half. -/
theorem pay4_row (a b : Vec Ideal S256x512 .bf16) (c : Vec Ideal S256x1024 .bf16) (wa wb : Vec Ideal S512x1024 .bf16)
    (wc : Vec Ideal S1024x1024 .bf16) :
    row (k0_pay4 a wa b wb c wc) r = mix (row a r) (row b r) (row c r) (mat wa) (mat wb) (mat wc) := by
  funext j
  dsimp only [row, mat]
  pointwise [k0_pay4, mix, rowMul]

/-- The embedding's projection, first half. -/
theorem pay5_row (p : Vec Ideal S1x1x256x256 .f32) (w : Vec Ideal S256x1024 .bf16) :
    row (k0_pay5 p w) r = rowMul (fun k => p (ix4 0 0 r k)) (mat w) := by
  funext j
  dsimp only [row, mat]
  pointwise [k0_pay5, rowMul]

/-- The embedding's projection, second half. -/
theorem pay6_row (p : Vec Ideal S1x1x256x256 .f32) (w : Vec Ideal S256x1024 .bf16) :
    row (k0_pay6 p w) r = rowMul (fun k => p (ix4 0 0 r k)) (mat w) := by
  funext j
  dsimp only [row, mat]
  pointwise [k0_pay6, rowMul]

/-- The first residual, first half. -/
theorem pay7_row (m x : FVec Ideal S256x1024 .f32) (g : Vec Ideal S1x1024 .f32) :
    row (k0_pay7 m x g) r = afterMix (row x r) (row m r) (row g 0) := by
  funext j
  dsimp only [row, mat]
  pointwise [k0_pay7, afterMix, rms]

/-- The first residual, second half. -/
theorem pay10_row (m x : FVec Ideal S256x1024 .f32) (g : Vec Ideal S1x1024 .f32) :
    row (k0_pay10 m x (k0_pay8 g) (k0_pay9 m) (Scalar.ofBits .f32 0x44800000#32)) r = afterMix (row x r) (row m r) (row g 0) := by
  funext j
  dsimp only [row, mat]
  pointwise [k0_pay10, k0_pay9, k0_pay8, afterMix, rms]

/-- The normalised input of the feed-forward layer, first half. -/
theorem pay11_row (x : FVec Ideal S256x1024 .f32) (g : Vec Ideal S1x1024 .f32) :
    row (k0_pay11 x g) r = rms (row x r) (row g 0) := by
  funext j
  dsimp only [row, mat]
  pointwise [k0_pay11, rms]

/-- The normalised input of the feed-forward layer, second half. -/
theorem pay12_row (m x : FVec Ideal S256x1024 .f32) (g g' : Vec Ideal S1x1024 .f32) :
    row (k0_pay12 m x (k0_pay8 g) (k0_pay9 m) (Scalar.ofBits .f32 0x44800000#32) g') r
      = rms (afterMix (row x r) (row m r) (row g 0)) (row g' 0) := by
  rw [← pay10_row]
  funext j
  dsimp only [row, mat]
  pointwise [k0_pay12, rms]

/-- The gate's projection, first half. -/
theorem pay13_row (x : FVec Ideal S256x1024 .f32) (g : Vec Ideal S1x1024 .f32) (w : Vec Ideal S1024x2816 .bf16) :
    row (k0_pay13 x g w) r = rowMul (rms (row x r) (row g 0)) (mat w) := by
  rw [← pay11_row]
  funext j
  dsimp only [row, mat]
  pointwise [k0_pay13, rowMul]

/-- The feed-forward layer, first half. -/
theorem pay14_row (x : FVec Ideal S256x1024 .f32) (g : Vec Ideal S1x1024 .f32) (wg wu : Vec Ideal S1024x2816 .bf16)
    (wd : Vec Ideal S2816x1024 .bf16) :
    row (k0_pay14 (k0_pay11 x g) (k0_pay13 x g wg) wu wd) r = ffn (rms (row x r) (row g 0)) (mat wg) (mat wu) (mat wd) := by
  have h : ∀ k, k0_pay13 x g wg (ix2 r k) = rowMul (rms (row x r) (row g 0)) (mat wg) k := fun k => congrFun (pay13_row r x g wg) k
  have h' : ∀ k, k0_pay11 x g (ix2 r k) = rms (row x r) (row g 0) k := fun k => congrFun (pay11_row r x g) k
  funext j
  dsimp only [row, mat]
  pointwise [k0_pay14, h, h']
  simp only [ffn, rowMul, logistic, zero_sub]

/-- The feed-forward layer, second half. -/
theorem pay15_row (h : FVec Ideal S256x1024 .bf16) (wg wu : Vec Ideal S1024x2816 .bf16) (wd : Vec Ideal S2816x1024 .bf16) :
    row (k0_pay15 h wg wu wd) r = ffn (row h r) (mat wg) (mat wu) (mat wd) := by
  funext j
  dsimp only [row, mat]
  pointwise [k0_pay15]
  simp only [ffn, rowMul, logistic, zero_sub]

/-- The second residual, first half. -/
theorem pay18_row (x : FVec Ideal S256x1024 .f32) (h : FVec Ideal S256x1024 .bf16) (gt : FVec Ideal S256x2816 .f32)
    (wu : Vec Ideal S1024x2816 .bf16) (wd : Vec Ideal S2816x1024 .bf16) (g : Vec Ideal S1x1024 .f32) :
    row (k0_pay18 x (k0_pay14 h gt wu wd) (k0_pay16 g) (k0_pay17 h gt wu wd)) r
      = afterMix (row x r) (row (k0_pay14 h gt wu wd) r) (row g 0) := by
  funext j
  dsimp only [row, mat]
  pointwise [k0_pay18, k0_pay17, k0_pay16, afterMix, rms]

/-- The second residual, second half. -/
theorem pay19_row (x f : FVec Ideal S256x1024 .f32) (g : Vec Ideal S1x1024 .f32) :
    row (k0_pay19 x f g) r = afterMix (row x r) (row f r) (row g 0) := by
  funext j
  dsimp only [row, mat]
  pointwise [k0_pay19, afterMix, rms]

/-- The gated embedding added to the second residual, first half. -/
theorem pay1_row (x f : FVec Ideal S256x1024 .f32) (g : FVec Ideal S1x1024 .f32) (s : FVec Ideal S256 .f32) (w : Vec Ideal S1024x1024 .bf16)
    (p : Vec Ideal S1x1x256x256 .f32) (wp : Vec Ideal S256x1024 .bf16) :
    row (k0_pay1 (k0_pay5 p wp) (k0_pay18 x f g s) (k0_pay20 x f g s w)) r
      = afterPle (row (k0_pay18 x f g s) r) (fun k => p (ix4 0 0 r k)) (mat w) (mat wp) := by
  have h : ∀ k, k0_pay5 p wp (ix2 r k) = _ := fun k => congrFun (pay5_row r p wp) k
  funext j
  dsimp only [row, mat]
  pointwise [k0_pay1, k0_pay20, h]
  simp only [afterPle, rowMul, logistic, zero_sub]

/-- The gated embedding added to the second residual, second half. -/
theorem pay2_row (x f : FVec Ideal S256x1024 .f32) (g : Vec Ideal S1x1024 .f32) (w : Vec Ideal S1024x1024 .bf16)
    (p : Vec Ideal S1x1x256x256 .f32) (wp : Vec Ideal S256x1024 .bf16) :
    row (k0_pay2 (k0_pay6 p wp) (k0_pay19 x f g) (k0_pay21 x f g w)) r
      = afterPle (row (k0_pay19 x f g) r) (fun k => p (ix4 0 0 r k)) (mat w) (mat wp) := by
  have h : ∀ k, k0_pay6 p wp (ix2 r k) = _ := fun k => congrFun (pay6_row r p wp) k
  funext j
  dsimp only [row, mat]
  pointwise [k0_pay2, k0_pay21, h]
  simp only [afterPle, rowMul, logistic, zero_sub]

/-- The token's blocks: `Dense.tail` of row `i` of the point's blocks. -/
def tailOf (x : Vec Ideal S512x1024 .f32) (a b : Vec Ideal S512x512 .bf16) (c : Vec Ideal S512x1024 .bf16)
    (p : Vec Ideal S1x1x512x256 .f32) (gm gp gf : Vec Ideal S1x1024 .f32) (wa wb : Vec Ideal S512x1024 .bf16)
    (wc : Vec Ideal S1024x1024 .bf16) (wg wu : Vec Ideal S1024x2816 .bf16) (wd : Vec Ideal S2816x1024 .bf16)
    (wpg : Vec Ideal S1024x1024 .bf16) (wpp : Vec Ideal S256x1024 .bf16) (i : Fin 512) : Fin 1024 → EReal :=
  tail (row x i) (row a i) (row b i) (row c i) (fun k => p (ix4 0 0 i k)) (row gm 0) (row gp 0) (row gf 0)
    (mat wa) (mat wb) (mat wc) (mat wg) (mat wu) (mat wd) (mat wpg) (mat wpp)

/-- A residual added after a normalisation is the same function of the row for both residuals. -/
theorem afterMix_ffn (x gp gf : Fin 1024 → EReal) (wg wu : Fin 1024 → Fin 2816 → EReal) (wd : Fin 2816 → Fin 1024 → EReal) :
    afterMix x (ffn (rms x gp) wg wu wd) gf = afterFfn x gp gf wg wu wd := rfl

/-- The first half of the block: row `r` of what the body stores in rows 0 to 255. -/
theorem half0 (x : Vec Ideal S256x1024 .f32) (a b : Vec Ideal S256x512 .bf16) (c : Vec Ideal S256x1024 .bf16)
    (p : Vec Ideal S1x1x256x256 .f32) (gm gp gf : Vec Ideal S1x1024 .f32) (wa wb : Vec Ideal S512x1024 .bf16)
    (wc : Vec Ideal S1024x1024 .bf16) (wg wu : Vec Ideal S1024x2816 .bf16) (wd : Vec Ideal S2816x1024 .bf16)
    (wpg : Vec Ideal S1024x1024 .bf16) (wpp : Vec Ideal S256x1024 .bf16) (y : FVec Ideal S256x1024 .f32)
    (hy : y = k0_pay7 (k0_pay3 a wa b wb c wc) x gm) :
    row (k0_pay1 (k0_pay5 p wpp)
        (k0_pay18 y (k0_pay14 (k0_pay11 y gp) (k0_pay13 y gp wg) wu wd) (k0_pay16 gf) (k0_pay17 (k0_pay11 y gp) (k0_pay13 y gp wg) wu wd))
        (k0_pay20 y (k0_pay14 (k0_pay11 y gp) (k0_pay13 y gp wg) wu wd) (k0_pay16 gf) (k0_pay17 (k0_pay11 y gp) (k0_pay13 y gp wg) wu wd) wpg)) r
      = tail (row x r) (row a r) (row b r) (row c r) (fun k => p (ix4 0 0 r k)) (row gm 0) (row gp 0) (row gf 0)
        (mat wa) (mat wb) (mat wc) (mat wg) (mat wu) (mat wd) (mat wpg) (mat wpp) := by
  rw [pay1_row, pay18_row, pay14_row, afterMix_ffn, hy, pay7_row, pay3_row]
  rfl

/-- The second half of the block: row `r` of what the body stores in rows 256 to 511. -/
theorem half1 (x : Vec Ideal S256x1024 .f32) (a b : Vec Ideal S256x512 .bf16) (c : Vec Ideal S256x1024 .bf16)
    (p : Vec Ideal S1x1x256x256 .f32) (gm gp gf : Vec Ideal S1x1024 .f32) (wa wb : Vec Ideal S512x1024 .bf16)
    (wc : Vec Ideal S1024x1024 .bf16) (wg wu : Vec Ideal S1024x2816 .bf16) (wd : Vec Ideal S2816x1024 .bf16)
    (wpg : Vec Ideal S1024x1024 .bf16) (wpp : Vec Ideal S256x1024 .bf16) (m y : FVec Ideal S256x1024 .f32)
    (hm : m = k0_pay4 a wa b wb c wc)
    (hy : y = k0_pay10 m x (k0_pay8 gm) (k0_pay9 m) (Scalar.ofBits .f32 0x44800000#32)) :
    row (k0_pay2 (k0_pay6 p wpp)
        (k0_pay19 y (k0_pay15 (k0_pay12 m x (k0_pay8 gm) (k0_pay9 m) (Scalar.ofBits .f32 0x44800000#32) gp) wg wu wd) gf)
        (k0_pay21 y (k0_pay15 (k0_pay12 m x (k0_pay8 gm) (k0_pay9 m) (Scalar.ofBits .f32 0x44800000#32) gp) wg wu wd) gf wpg)) r
      = tail (row x r) (row a r) (row b r) (row c r) (fun k => p (ix4 0 0 r k)) (row gm 0) (row gp 0) (row gf 0)
        (mat wa) (mat wb) (mat wc) (mat wg) (mat wu) (mat wd) (mat wpg) (mat wpp) := by
  rw [pay2_row, pay19_row, pay15_row, pay12_row, hy, pay10_row, afterMix_ffn, hm, pay4_row]
  rfl

/-- What the body leaves of its output block, read at an index: the tail of the row. -/
theorem out_apply (x : Vec Ideal S512x1024 .f32) (a b : Vec Ideal S512x512 .bf16) (c : Vec Ideal S512x1024 .bf16)
    (p : Vec Ideal S1x1x512x256 .f32) (gm gp gf : Vec Ideal S1x1024 .f32) (wa wb : Vec Ideal S512x1024 .bf16)
    (wc : Vec Ideal S1024x1024 .bf16) (wg wu : Vec Ideal S1024x2816 .bf16) (wd : Vec Ideal S2816x1024 .bf16)
    (wpg : Vec Ideal S1024x1024 .bf16) (wpp : Vec Ideal S256x1024 .bf16) (i : Fin 512) (j : Fin 1024) :
    out0_16 x a b c p gm gp gf wa wb wc wg wu wd wpg wpp (ix2 i j) = tailOf x a b c p gm gp gf wa wb wc wg wu wd wpg wpp i j := by
  unfold_out out0_16
  canon_tiles z hz
  case piece0 =>
    obtain ⟨r, k, rfl⟩ : ∃ (r : Fin 256) (k : Fin 1024), z = ix2 r k := ⟨z 0, z 1, eq_ix2 z⟩
    obtain rfl : k = j := Fin.ext hz1.symm
    obtain rfl : i = ⟨256 + r.val, Nat.add_lt_add_left r.isLt 256⟩ := Fin.ext hz0
    refine (congrFun (half1 r _ _ _ _ _ _ _ _ _ _ _ _ _ _ _ _ _ _ rfl rfl) k).trans ?_
    delta tailOf row mat
    pointwise
  case piece1 =>
    obtain ⟨r, k, rfl⟩ : ∃ (r : Fin 256) (k : Fin 1024), z = ix2 r k := ⟨z 0, z 1, eq_ix2 z⟩
    obtain rfl : k = j := Fin.ext hz1.symm
    obtain rfl : i = ⟨r.val, Nat.lt_trans r.isLt (by decide)⟩ := Fin.ext hz0
    refine (congrFun (half0 r _ _ _ _ _ _ _ _ _ _ _ _ _ _ _ _ _ rfl) k).trans ?_
    delta tailOf row mat
    pointwise

end Cert.Dense.Block

end
-- ==== Proof.DenseArray.lean ====
/-
  The kernel's result array after the run: row `n` is `Dense.tail` of row `n` of the arguments.
-/
module

public import proofs.«01_k».proof.Proof.DenseBlock

@[expose] public section

set_option maxRecDepth 16384

noncomputable section

open Idealize.ShloMosaic Idealize.ShloMosaic.TcCoe Idealize.SL.Sem Cert.KernelIdeal Cert.KernelIdeal.Gen Cert.Dense
open Idealize.ShloMosaic.Pipeline (Dat)
open scoped BigOperators

namespace Cert.Dense.Arr

variable (m : (ℓ : Loc nD τ sig) → Buf (Elt Ideal) ℓ)

/-- The arguments as the kernel finds them in memory. -/
def argsOf (c : Dev nD) : Args where
  x := m ((c : Thread nD τ).loc main_arg0)
  a := m ((c : Thread nD τ).loc main_arg1)
  b := m ((c : Thread nD τ).loc main_arg2)
  c := m ((c : Thread nD τ).loc main_arg3)
  p := m ((c : Thread nD τ).loc main_arg4)
  gm := m ((c : Thread nD τ).loc main_arg5)
  gp := m ((c : Thread nD τ).loc main_arg6)
  gf := m ((c : Thread nD τ).loc main_arg7)
  wo := m ((c : Thread nD τ).loc main_arg8)
  wg := m ((c : Thread nD τ).loc main_arg9)
  wu := m ((c : Thread nD τ).loc main_arg10)
  wd := m ((c : Thread nD τ).loc main_arg11)
  wpg := m ((c : Thread nD τ).loc main_arg12)
  wpp := m ((c : Thread nD τ).loc main_arg13)

/-- The result array. -/
def result (c : Dev nD) : S32768x1024.Idx → EReal := fun i => tailOf (argsOf m c) (i 0) (i 1)

/-- Which blocks the windows read at a point, in closed form. -/
theorem idx : ∀ t : Fin cfg0.N, win0_0.index t = ![t.val, 0] ∧ win0_1.index t = ![t.val, 0] ∧ win0_2.index t = ![t.val, 0]
    ∧ win0_3.index t = ![t.val, 0] ∧ win0_4.index t = ![0, t.val / 8, t.val % 8, 0] ∧ win0_16.index t = ![t.val, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] := by
  decide +kernel

variable (c : Dev nD) (t : Fin cfg0.N)

/-- The row of the array that row `i` of a point's block is. -/
theorem row_lt (i : Fin 512) : t.val * 512 + i.val < 32768 := by
  have h : t.val < 64 := (N_0 : cfg0.N = 64) ▸ t.isLt
  have := i.isLt
  omega

/-! Each window's block, read at an index, is an element of an argument. -/

theorem read0 (i : Fin 512) (k : Fin 1024) : iblk m c 0 t (ix2 i k)
    = (argsOf m c).x (ix2 ⟨t.val * 512 + i.val, row_lt t i⟩ k) := by
  delta argsOf; blk_ext [iblk, V, idx t]
theorem read1 (i : Fin 512) (k : Fin 512) : iblk m c 1 t (ix2 i k)
    = (argsOf m c).a (ix2 ⟨t.val * 512 + i.val, row_lt t i⟩ k) := by
  delta argsOf; blk_ext [iblk, V, idx t]
theorem read2 (i : Fin 512) (k : Fin 512) : iblk m c 2 t (ix2 i k)
    = (argsOf m c).b (ix2 ⟨t.val * 512 + i.val, row_lt t i⟩ k) := by
  delta argsOf; blk_ext [iblk, V, idx t]
theorem read3 (i : Fin 512) (k : Fin 1024) : iblk m c 3 t (ix2 i k)
    = (argsOf m c).c (ix2 ⟨t.val * 512 + i.val, row_lt t i⟩ k) := by
  delta argsOf; blk_ext [iblk, V, idx t]
theorem read4 (i : Fin 512) (k : Fin 256) : iblk m c 4 t (ix4 0 0 i k)
    = (argsOf m c).p (ix4 0 ⟨(t.val * 512 + i.val) / 4096, by have := row_lt t i; omega⟩ ⟨(t.val * 512 + i.val) % 4096, by omega⟩ k) := by
  delta argsOf; blk_ext [iblk, V, idx t]
theorem read5 (k : Fin 1024) : iblk m c 5 t (ix2 0 k)
    = (argsOf m c).gm (ix1 k) := by
  delta argsOf; blk_ext! [iblk, V, idx t]
theorem read6 (k : Fin 1024) : iblk m c 6 t (ix2 0 k)
    = (argsOf m c).gp (ix1 k) := by
  delta argsOf; blk_ext! [iblk, V, idx t]
theorem read7 (k : Fin 1024) : iblk m c 7 t (ix2 0 k)
    = (argsOf m c).gf (ix1 k) := by
  delta argsOf; blk_ext! [iblk, V, idx t]
theorem read8 (k : Fin 512) (j : Fin 1024) : iblk m c 8 t (ix2 k j)
    = (argsOf m c).wo (ix2 ⟨k.val, by omega⟩ j) := by
  delta argsOf; blk_ext! [iblk, V, idx t]
theorem read9 (k : Fin 512) (j : Fin 1024) : iblk m c 9 t (ix2 k j)
    = (argsOf m c).wo (ix2 ⟨512 + k.val, by omega⟩ j) := by
  delta argsOf; blk_ext! [iblk, V, idx t]
theorem read10 (k : Fin 1024) (j : Fin 1024) : iblk m c 10 t (ix2 k j)
    = (argsOf m c).wo (ix2 ⟨1024 + k.val, by omega⟩ j) := by
  delta argsOf; blk_ext! [iblk, V, idx t]
theorem read11 (k : Fin 1024) (j : Fin 2816) : iblk m c 11 t (ix2 k j)
    = (argsOf m c).wg (ix2 k j) := by
  delta argsOf; blk_ext! [iblk, V, idx t]
theorem read12 (k : Fin 1024) (j : Fin 2816) : iblk m c 12 t (ix2 k j)
    = (argsOf m c).wu (ix2 k j) := by
  delta argsOf; blk_ext! [iblk, V, idx t]
theorem read13 (k : Fin 2816) (j : Fin 1024) : iblk m c 13 t (ix2 k j)
    = (argsOf m c).wd (ix2 k j) := by
  delta argsOf; blk_ext! [iblk, V, idx t]
theorem read14 (k : Fin 1024) (j : Fin 1024) : iblk m c 14 t (ix2 k j)
    = (argsOf m c).wpg (ix2 k j) := by
  delta argsOf; blk_ext! [iblk, V, idx t]
theorem read15 (k : Fin 256) (j : Fin 1024) : iblk m c 15 t (ix2 k j)
    = (argsOf m c).wpp (ix2 k j) := by
  delta argsOf; blk_ext! [iblk, V, idx t]

/-- What a point computes of a row of its block is the tail of the row of the arguments. -/
theorem point_eq (i : Fin 512) :
    Block.tailOf (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) i = tailOf (argsOf m c) ⟨t.val * 512 + i.val, row_lt t i⟩ := by
  delta Block.tailOf tailOf Block.row Block.mat
  beta_reduce
  rw [funext (read0 m c t i), funext (read1 m c t i), funext (read2 m c t i), funext (read3 m c t i), funext (read4 m c t i),
    funext (read5 m c t), funext (read6 m c t), funext (read7 m c t),
    funext fun k => funext (read8 m c t k), funext fun k => funext (read9 m c t k), funext fun k => funext (read10 m c t k),
    funext fun k => funext (read11 m c t k), funext fun k => funext (read12 m c t k), funext fun k => funext (read13 m c t k),
    funext fun k => funext (read14 m c t k), funext fun k => funext (read15 m c t k)]

omit t in
/-- The result array after the run. -/
theorem arr_eq (c : Dev nD) : (dats m 0 c).arrAt 16 cfg0.N = result m c := by
  refine (dats m 0 c).arrAt_eq_of_covers 16 _ (by decide +kernel) fun t hf y => ?_
  blk_simp
  rw [after0_16]
  obtain ⟨i, j, rfl⟩ : ∃ (i : Fin 512) (j : Fin 1024), y = ix2 i j := ⟨y 0, y 1, eq_ix2 y⟩
  refine (Block.out_apply ..).trans ?_
  have hi := row_lt t i
  have e : (win0_16.blk t).view.emb (ix2 i j) = ix2 (⟨t.val * 512 + i.val, hi⟩ : Fin 32768) j := by blk_ext [idx t]
  rw [e]
  show _ = tailOf (argsOf m c) ⟨t.val * 512 + i.val, hi⟩ j
  rw [point_eq]

end Cert.Dense.Arr

end
-- ==== Proof.DenseRef.lean ====
/-
  The reference read at an index: row `n` of its result is `Dense.tail` of row `n` of its arguments.
-/
module

public import proofs.«01_k».proof.Proof.DenseSpec
public import proofs.«01_k».proof.Proof.Gen.ReferenceIdeal.Run
public import Idealize.ShloMosaic.Lib.Pipeline.ValueKit
public import Idealize.ShloMosaic.Lib.Tactic.CleanTypes

@[expose] public section

set_option maxRecDepth 16384

noncomputable section

open Idealize.ShloMosaic Cert.ReferenceIdeal Cert.ReferenceIdeal.Gen Cert.ReferenceIdeal.Value Cert.Dense
open scoped BigOperators

namespace Cert.Dense.Ref

variable (V0 : Valuation τ sig (Elt Ideal)) (n : Fin 32768)

/-- The arguments held by a valuation. -/
def argsOf (V0 : Valuation τ sig (Elt Ideal)) : Args where
  x := V0 (Proc.devRef .tc main_arg0)
  a := V0 (Proc.devRef .tc main_arg1)
  b := V0 (Proc.devRef .tc main_arg2)
  c := V0 (Proc.devRef .tc main_arg3)
  p := V0 (Proc.devRef .tc main_arg4)
  gm := V0 (Proc.devRef .tc main_arg5)
  gp := V0 (Proc.devRef .tc main_arg6)
  gf := V0 (Proc.devRef .tc main_arg7)
  wo := V0 (Proc.devRef .tc main_arg8)
  wg := V0 (Proc.devRef .tc main_arg9)
  wu := V0 (Proc.devRef .tc main_arg10)
  wd := V0 (Proc.devRef .tc main_arg11)
  wpg := V0 (Proc.devRef .tc main_arg12)
  wpp := V0 (Proc.devRef .tc main_arg13)

/-- The rows of a concatenation times the projection, as the sum of the three pieces' products. -/
theorem mix_apply (a b : S32768x512.Idx → EReal) (c : S32768x1024.Idx → EReal) (w : S2048x1024.Idx → EReal) (n : Fin 32768) (j : Fin 1024) :
    (Host.dotGeneral (F := Ideal) (φ₁ := .f32) (φ₂ := .f32) dot_S32768x2048_S2048x1024_S32768x1024_1_0_0_1_n_n none
        (concatenate S32768x2048 1 [⟨S32768x512, a⟩, ⟨S32768x512, b⟩, ⟨S32768x1024, c⟩]
          concatenates_S32768x512_S32768x512_S32768x1024_S32768x2048_d1) w : S32768x1024.Idx → EReal) (ix2 n j)
      = mix (fun k => a (ix2 n k)) (fun k => b (ix2 n k)) (fun k => c (ix2 n k)) (fun k j => w (ix2 ⟨k.val, by omega⟩ j))
          (fun k j => w (ix2 ⟨512 + k.val, by omega⟩ j)) (fun k j => w (ix2 ⟨1024 + k.val, by omega⟩ j)) j := by
  pointwise [sumSplitAll, mix, rowMul]
  rw [add_assoc]
  have e : ∀ k : Fin 1024, 512 + (512 + k.val) = 1024 + k.val := fun k => by omega
  simp only [e]

/-- The projected mixers' outputs. -/
theorem v4_row (A : Args) (h : argsOf V0 = A) :
    (fun j => (res_main_v4 V0 : S32768x1024.Idx → EReal) (ix2 n j))
      = mix (fun k => A.a (ix2 n k)) (fun k => A.b (ix2 n k)) (fun k => A.c (ix2 n k)) (fun k j => A.wo (ix2 ⟨k.val, by omega⟩ j))
          (fun k j => A.wo (ix2 ⟨512 + k.val, by omega⟩ j)) (fun k j => A.wo (ix2 ⟨1024 + k.val, by omega⟩ j)) := by
  subst h
  exact funext fun j => mix_apply (argsOf V0).a (argsOf V0).b (argsOf V0).c (argsOf V0).wo n j

/-- A residual with a normalised addend, as the reference writes it, at an index. -/
theorem addRms_apply (x y : FVec Ideal S32768x1024 .f32) (g : FVec Ideal S1024 .f32) (j : Fin 1024) :
    addf x (mulf (mulf y (broadcastInDim S32768x1024 ![0, 1] bcast_S32768x1_S32768x1024_0_1 (Host.rsqrt (addf (Host.divf (broadcastInDim S32768x1 ![0] bcast_S32768_S32768x1_0 (Host.reduceAdd (mulf y y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) (ix2 n j)
      = afterMix (fun k => x (ix2 n k)) (fun k => y (ix2 n k)) (fun k => g (ix1 k)) j := by
  pointwise [afterMix, rms]

/-- A normalisation, as the reference writes it, at an index. -/
theorem rms_apply (y : FVec Ideal S32768x1024 .f32) (g : FVec Ideal S1024 .f32) (j : Fin 1024) :
    mulf (mulf y (broadcastInDim S32768x1024 ![0, 1] bcast_S32768x1_S32768x1024_0_1 (Host.rsqrt (addf (Host.divf (broadcastInDim S32768x1 ![0] bcast_S32768_S32768x1_0 (Host.reduceAdd (mulf y y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g)) (ix2 n j)
      = rms (fun k => y (ix2 n k)) (fun k => g (ix1 k)) j := by
  pointwise [rms]

/-- The feed-forward layer, as the reference writes it, at an index. -/
theorem ffn_apply (h : FVec Ideal S32768x1024 .f32) (gt : FVec Ideal S32768x2816 .f32) (wg wu : FVec Ideal S1024x2816 .f32) (wd : FVec Ideal S2816x1024 .f32) (j : Fin 1024)
    (hg : gt = Host.dotGeneral dot_S32768x1024_S1024x2816_S32768x2816_1_0_0_1_n_n none h wg) :
    Host.dotGeneral dot_S32768x2816_S2816x1024_S32768x1024_1_0_0_1_n_n none (mulf (mulf gt (Host.divf (broadcastInDim S32768x2816 ![] bcast_S_S32768x2816 (constant S_ .f32 0x3F800000#32)) (addf (broadcastInDim S32768x2816 ![] bcast_S_S32768x2816 (constant S_ .f32 0x3F800000#32)) (Host.exp (Host.negf gt))))) (Host.dotGeneral dot_S32768x1024_S1024x2816_S32768x2816_1_0_0_1_n_n none h wu)) wd (ix2 n j)
      = ffn (fun k => h (ix2 n k)) (fun k j => wg (ix2 k j)) (fun k j => wu (ix2 k j)) (fun k j => wd (ix2 k j)) j := by
  subst hg
  pointwise
  simp only [ffn, rowMul, logistic]

/-- The gated embedding, as the reference writes it, at an index. -/
theorem ple_apply (x : FVec Ideal S32768x1024 .f32) (w : FVec Ideal S1024x1024 .f32) (p : FVec Ideal S2x8x4096x256 .f32) (wp : FVec Ideal S256x1024 .f32) (j : Fin 1024) :
    addf x (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (Host.dotGeneral dot_S32768x1024_S1024x1024_S32768x1024_1_0_0_1_n_n none x w))))) (Host.dotGeneral dot_S32768x256_S256x1024_S32768x1024_1_0_0_1_n_n none (shapeCast S32768x256 (shapeCast S8x4096x256 (extractStridedSlice S1x8x4096x256 ![0, 0, 0, 0] p slices_S2x8x4096x256_S1x8x4096x256_0_0_0_0) shapeCasts_S1x8x4096x256_S8x4096x256) shapeCasts_S8x4096x256_S32768x256) wp)) (ix2 n j)
      = afterPle (fun k => x (ix2 n k)) (fun k => p (ix4 0 ⟨n.val / 4096, by omega⟩ ⟨n.val % 4096, by omega⟩ k))
          (fun k j => w (ix2 k j)) (fun k j => wp (ix2 k j)) j := by
  pointwise
  simp only [afterPle, rowMul, logistic]

/-- The residual stream after the mixers. -/
theorem v18_row (A : Args) (h : argsOf V0 = A) :
    (fun j => (res_main_v18 V0 : S32768x1024.Idx → EReal) (ix2 n j))
      = afterMix (fun k => A.x (ix2 n k)) (fun j => (res_main_v4 V0 : S32768x1024.Idx → EReal) (ix2 n j)) (fun k => A.gm (ix1 k)) := by
  subst h
  exact funext fun j => addRms_apply n (argsOf V0).x (res_main_v4 V0) (argsOf V0).gm j

/-- The feed-forward layer's input. -/
theorem v31_row (A : Args) (h : argsOf V0 = A) :
    (fun j => (res_main_v31 V0 : S32768x1024.Idx → EReal) (ix2 n j))
      = rms (fun j => (res_main_v18 V0 : S32768x1024.Idx → EReal) (ix2 n j)) (fun k => A.gp (ix1 k)) := by
  subst h
  exact funext fun j => rms_apply n (res_main_v18 V0) (argsOf V0).gp j

/-- The feed-forward layer. -/
theorem v36_row (A : Args) (h : argsOf V0 = A) :
    (fun j => (res_main_v36 V0 : S32768x1024.Idx → EReal) (ix2 n j))
      = ffn (fun j => (res_main_v31 V0 : S32768x1024.Idx → EReal) (ix2 n j)) (fun k j => A.wg (ix2 k j)) (fun k j => A.wu (ix2 k j))
          (fun k j => A.wd (ix2 k j)) := by
  subst h
  exact funext fun j => ffn_apply n (res_main_v31 V0) (res_main_v32 V0) (argsOf V0).wg (argsOf V0).wu (argsOf V0).wd j rfl

/-- The residual stream after the feed-forward layer. -/
theorem v50_row (A : Args) (h : argsOf V0 = A) :
    (fun j => (res_main_v50 V0 : S32768x1024.Idx → EReal) (ix2 n j))
      = afterMix (fun j => (res_main_v18 V0 : S32768x1024.Idx → EReal) (ix2 n j))
          (fun j => (res_main_v36 V0 : S32768x1024.Idx → EReal) (ix2 n j)) (fun k => A.gf (ix1 k)) := by
  subst h
  exact funext fun j => addRms_apply n (res_main_v18 V0) (res_main_v36 V0) (argsOf V0).gf j

/-- The reference's result, as its run names it, at an index. -/
theorem result_apply (A : Args) (h : argsOf V0 = A) (j : Fin 1024) :
    (addf (res_main_v50 V0) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (Host.dotGeneral (F := Ideal) (φ₁ := .f32) (φ₂ := .f32) dot_S32768x1024_S1024x1024_S32768x1024_1_0_0_1_n_n none (res_main_v50 V0) A.wpg))))) (Host.dotGeneral (F := Ideal) (φ₁ := .f32) (φ₂ := .f32) dot_S32768x256_S256x1024_S32768x1024_1_0_0_1_n_n none (shapeCast S32768x256 (shapeCast S8x4096x256 (extractStridedSlice S1x8x4096x256 ![0, 0, 0, 0] A.p slices_S2x8x4096x256_S1x8x4096x256_0_0_0_0) shapeCasts_S1x8x4096x256_S8x4096x256) shapeCasts_S8x4096x256_S32768x256) A.wpp)) : S32768x1024.Idx → EReal) (ix2 n j)
      = tailOf A n j := by
  refine (ple_apply n (res_main_v50 V0) A.wpg A.p A.wpp j).trans ?_
  rw [v50_row V0 n A h, v36_row V0 n A h, v31_row V0 n A h, v18_row V0 n A h, v4_row V0 n A h]
  rfl

end Cert.Dense.Ref

end
-- ==== Proof.MixRunA.lean ====
/-
  The run of the projection call's body at the first step of a sequence, over any floats: what its stores leave.
-/
module

public import proofs.«01_k».proof.Proof.Gen.Kernel2Ideal.Frame.Runs

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12000000 in
/-- What the body's stores leave in the staging buffers and in the scratch at the first point of a sequence
    (the state is set to zero), with the proof that the body runs from whole buffers and leaves just that. -/
noncomputable def bodyRunA (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x256 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S512x1024 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1024x128 .bf16) (harg9 : arg9.IsWhole) (arg10 : Memref sig .tc .vmem S8x1024 .bf16) (harg10 : arg10.IsWhole) (arg11 : Memref sig .tc .vmem S1024x1536 .bf16) (harg11 : arg11.IsWhole) (arg12 : Memref sig .tc .vmem S1024x1024 .bf16) (harg12 : arg12.IsWhole) (arg13 : Memref sig .tc .vmem S1024x1536 .bf16) (harg13 : arg13.IsWhole) (arg14 : Memref sig .tc .vmem S1024x128 .bf16) (harg14 : arg14.IsWhole) (arg15 : Memref sig .tc .vmem S16x1024 .bf16) (harg15 : arg15.IsWhole) (arg16 : Memref sig .tc .vmem S640x256 .bf16) (harg16 : arg16.IsWhole) (arg17 : Memref sig .tc .vmem S640x1 .f32) (harg17 : arg17.IsWhole) (arg18 : Memref sig .tc .vmem S3x512 .f32) (harg18 : arg18.IsWhole) (arg19 : Memref sig .tc .vmem S4x1536 .f32) (harg19 : arg19.IsWhole) (arg20 : Memref sig .tc .vmem S1x1536 .f32) (harg20 : arg20.IsWhole) (arg21 : Memref sig .tc .vmem S1x16 .f32) (harg21 : arg21.IsWhole) (arg22 : Memref sig .tc .vmem S16x1 .f32) (harg22 : arg22.IsWhole) (arg23 : Memref sig .tc .vmem S1x16 .f32) (harg23 : arg23.IsWhole) (arg24 : Memref sig .tc .vmem S16x1 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S128x128 .bf16) (harg27 : arg27.IsWhole) (arg28 : Memref sig .tc .vmem S128x128 .bf16) (harg28 : arg28.IsWhole) (arg29 : Memref sig .tc .vmem S48x1024 .bf16) (harg29 : arg29.IsWhole) (arg30 : Memref sig .tc .vmem S4x512x256 .bf16) (harg30 : arg30.IsWhole) (arg31 : Memref sig .tc .vmem S1024x256 .bf16) (harg31 : arg31.IsWhole) (arg32 : Memref sig .tc .vmem S1x4x640x256 .bf16) (harg32 : arg32.IsWhole) (arg33 : Memref sig .tc .vmem S4x256x256 .bf16) (harg33 : arg33.IsWhole) (arg34 : Memref sig .tc .vmem S4x8x256 .f32) (harg34 : arg34.IsWhole) (arg35 : Memref sig .tc .vmem S1024x64 .bf16) (harg35 : arg35.IsWhole) (arg36 : Memref sig .tc .vmem S1024x512 .bf16) (harg36 : arg36.IsWhole) (arg37 : Memref sig .tc .vmem S1024x1024 .bf16) (harg37 : arg37.IsWhole) (arg38 : Memref sig .tc .vmem S1032x512 .f32) (harg38 : arg38.IsWhole) (arg39 : Memref sig .tc .vmem S1032x1536 .f32) (harg39 : arg39.IsWhole) (arg40 : Memref sig .tc .vmem S2x128x512 .f32) (harg40 : arg40.IsWhole) (hc0 : cond0_0 i)
    (x0 : Vec F S1024x1024 .f32) (x1 : Vec F S1x1024 .f32) (x2 : Vec F S1x256 .f32) (x3 : Vec F S1x64 .f32) (x4 : Vec F S1x64 .f32) (x5 : Vec F S512x1024 .bf16) (x6 : Vec F S1024x256 .bf16) (x7 : Vec F S256x1024 .bf16) (x8 : Vec F S1024x128 .bf16) (x9 : Vec F S8x1024 .bf16) (x10 : Vec F S1024x1536 .bf16) (x11 : Vec F S1024x1024 .bf16) (x12 : Vec F S1024x1536 .bf16) (x13 : Vec F S1024x128 .bf16) (x14 : Vec F S16x1024 .bf16) (x15 : Vec F S640x256 .bf16) (x16 : Vec F S640x1 .f32) (x17 : Vec F S3x512 .f32) (x18 : Vec F S4x1536 .f32) (x19 : Vec F S1x1536 .f32) (x20 : Vec F S1x16 .f32) (x21 : Vec F S16x1 .f32) (x22 : Vec F S1x16 .f32) (x23 : Vec F S16x1 .f32) (x24 : Vec F S1x1024 .f32) (x25 : Vec F S1x1024 .f32) (x26 : Vec F S128x128 .bf16) (x27 : Vec F S128x128 .bf16) (x28 : Vec F S48x1024 .bf16) :
    Σ' (L29 : List (View.Piece (Elt F) S4x512x256 .bf16)), Σ' (L30 : List (View.Piece (Elt F) S1024x256 .bf16)), Σ' (L31 : List (View.Piece (Elt F) S1x4x640x256 .bf16)), Σ' (L32 : List (View.Piece (Elt F) S4x256x256 .bf16)), Σ' (L33 : List (View.Piece (Elt F) S4x8x256 .f32)), Σ' (L34 : List (View.Piece (Elt F) S1024x64 .bf16)), Σ' (L35 : List (View.Piece (Elt F) S1024x512 .bf16)), Σ' (L36 : List (View.Piece (Elt F) S1024x1024 .bf16)), Σ' (LS0 : List (View.Piece (Elt F) S1032x512 .f32)), Σ' (LS1 : List (View.Piece (Elt F) S1032x1536 .f32)), { LS2 : List (View.Piece (Elt F) S2x128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34) ∗ (∃ f, arg36.view.loc (c : Thread nD τ) ↦[arg36.view.set]{fullShare} arg36.view.writes (Elt F) f L35) ∗ (∃ f, arg37.view.loc (c : Thread nD τ) ↦[arg37.view.set]{fullShare} arg37.view.writes (Elt F) f L36) ∗ (∃ f, arg38.view.loc (c : Thread nD τ) ↦[arg38.view.set]{fullShare} arg38.view.writes (Elt F) f LS0) ∗ (∃ f, arg39.view.loc (c : Thread nD τ) ↦[arg39.view.set]{fullShare} arg39.view.writes (Elt F) f LS1) ∗ (∃ f, arg40.view.loc (c : Thread nD τ) ↦[arg40.view.set]{fullShare} arg40.view.writes (Elt F) f LS2)) -∗ K ⟨⟩))
          ⊢ wp frame (wpE (defs₀ (F := F)) Variants.none c none) E (cc0_inproj_conv_ssd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, ?_, ?_, ?_, ?_, ?_, ?_, ?_, ?_, ?_, ?_, fun E K => ?run⟩
  case run =>
    simp only [cc0_inproj_conv_ssd_eq_skeleton]; unfold cc0_inproj_conv_ssd_skel
    simp only [k0_part111_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part112_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [HS0]; · iexists _; iexact HS0
    isplitl [HS1]; · iexists _; iexact HS1
    iexists _; iexact HS2

end Cert.Kernel2Ideal.Own

end
-- ==== Proof.MixRunB.lean ====
/-
  The run of the projection call's body at a later step of a sequence, over any floats: what its stores leave.
-/
module

public import proofs.«01_k».proof.Proof.MixRunA

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12000000 in
/-- The same at a later point of a sequence, where the scratch holds what the point before left in it. -/
noncomputable def bodyRunB (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x256 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S512x1024 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1024x128 .bf16) (harg9 : arg9.IsWhole) (arg10 : Memref sig .tc .vmem S8x1024 .bf16) (harg10 : arg10.IsWhole) (arg11 : Memref sig .tc .vmem S1024x1536 .bf16) (harg11 : arg11.IsWhole) (arg12 : Memref sig .tc .vmem S1024x1024 .bf16) (harg12 : arg12.IsWhole) (arg13 : Memref sig .tc .vmem S1024x1536 .bf16) (harg13 : arg13.IsWhole) (arg14 : Memref sig .tc .vmem S1024x128 .bf16) (harg14 : arg14.IsWhole) (arg15 : Memref sig .tc .vmem S16x1024 .bf16) (harg15 : arg15.IsWhole) (arg16 : Memref sig .tc .vmem S640x256 .bf16) (harg16 : arg16.IsWhole) (arg17 : Memref sig .tc .vmem S640x1 .f32) (harg17 : arg17.IsWhole) (arg18 : Memref sig .tc .vmem S3x512 .f32) (harg18 : arg18.IsWhole) (arg19 : Memref sig .tc .vmem S4x1536 .f32) (harg19 : arg19.IsWhole) (arg20 : Memref sig .tc .vmem S1x1536 .f32) (harg20 : arg20.IsWhole) (arg21 : Memref sig .tc .vmem S1x16 .f32) (harg21 : arg21.IsWhole) (arg22 : Memref sig .tc .vmem S16x1 .f32) (harg22 : arg22.IsWhole) (arg23 : Memref sig .tc .vmem S1x16 .f32) (harg23 : arg23.IsWhole) (arg24 : Memref sig .tc .vmem S16x1 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S128x128 .bf16) (harg27 : arg27.IsWhole) (arg28 : Memref sig .tc .vmem S128x128 .bf16) (harg28 : arg28.IsWhole) (arg29 : Memref sig .tc .vmem S48x1024 .bf16) (harg29 : arg29.IsWhole) (arg30 : Memref sig .tc .vmem S4x512x256 .bf16) (harg30 : arg30.IsWhole) (arg31 : Memref sig .tc .vmem S1024x256 .bf16) (harg31 : arg31.IsWhole) (arg32 : Memref sig .tc .vmem S1x4x640x256 .bf16) (harg32 : arg32.IsWhole) (arg33 : Memref sig .tc .vmem S4x256x256 .bf16) (harg33 : arg33.IsWhole) (arg34 : Memref sig .tc .vmem S4x8x256 .f32) (harg34 : arg34.IsWhole) (arg35 : Memref sig .tc .vmem S1024x64 .bf16) (harg35 : arg35.IsWhole) (arg36 : Memref sig .tc .vmem S1024x512 .bf16) (harg36 : arg36.IsWhole) (arg37 : Memref sig .tc .vmem S1024x1024 .bf16) (harg37 : arg37.IsWhole) (arg38 : Memref sig .tc .vmem S1032x512 .f32) (harg38 : arg38.IsWhole) (arg39 : Memref sig .tc .vmem S1032x1536 .f32) (harg39 : arg39.IsWhole) (arg40 : Memref sig .tc .vmem S2x128x512 .f32) (harg40 : arg40.IsWhole) (hc0 : ¬cond0_0 i)
    (x0 : Vec F S1024x1024 .f32) (x1 : Vec F S1x1024 .f32) (x2 : Vec F S1x256 .f32) (x3 : Vec F S1x64 .f32) (x4 : Vec F S1x64 .f32) (x5 : Vec F S512x1024 .bf16) (x6 : Vec F S1024x256 .bf16) (x7 : Vec F S256x1024 .bf16) (x8 : Vec F S1024x128 .bf16) (x9 : Vec F S8x1024 .bf16) (x10 : Vec F S1024x1536 .bf16) (x11 : Vec F S1024x1024 .bf16) (x12 : Vec F S1024x1536 .bf16) (x13 : Vec F S1024x128 .bf16) (x14 : Vec F S16x1024 .bf16) (x15 : Vec F S640x256 .bf16) (x16 : Vec F S640x1 .f32) (x17 : Vec F S3x512 .f32) (x18 : Vec F S4x1536 .f32) (x19 : Vec F S1x1536 .f32) (x20 : Vec F S1x16 .f32) (x21 : Vec F S16x1 .f32) (x22 : Vec F S1x16 .f32) (x23 : Vec F S16x1 .f32) (x24 : Vec F S1x1024 .f32) (x25 : Vec F S1x1024 .f32) (x26 : Vec F S128x128 .bf16) (x27 : Vec F S128x128 .bf16) (x28 : Vec F S48x1024 .bf16) (xs0 : Vec F S1032x512 .f32) (xs1 : Vec F S1032x1536 .f32) (xs2 : Vec F S2x128x512 .f32) :
    Σ' (L29 : List (View.Piece (Elt F) S4x512x256 .bf16)), Σ' (L30 : List (View.Piece (Elt F) S1024x256 .bf16)), Σ' (L31 : List (View.Piece (Elt F) S1x4x640x256 .bf16)), Σ' (L32 : List (View.Piece (Elt F) S4x256x256 .bf16)), Σ' (L33 : List (View.Piece (Elt F) S4x8x256 .f32)), Σ' (L34 : List (View.Piece (Elt F) S1024x64 .bf16)), Σ' (L35 : List (View.Piece (Elt F) S1024x512 .bf16)), Σ' (L36 : List (View.Piece (Elt F) S1024x1024 .bf16)), Σ' (LS0 : List (View.Piece (Elt F) S1032x512 .f32)), Σ' (LS1 : List (View.Piece (Elt F) S1032x1536 .f32)), { LS2 : List (View.Piece (Elt F) S2x128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ owns (c : Thread nD τ) arg38 fullShare xs0 ∗ owns (c : Thread nD τ) arg39 fullShare xs1 ∗ owns (c : Thread nD τ) arg40 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34) ∗ (∃ f, arg36.view.loc (c : Thread nD τ) ↦[arg36.view.set]{fullShare} arg36.view.writes (Elt F) f L35) ∗ (∃ f, arg37.view.loc (c : Thread nD τ) ↦[arg37.view.set]{fullShare} arg37.view.writes (Elt F) f L36) ∗ (∃ f, arg38.view.loc (c : Thread nD τ) ↦[arg38.view.set]{fullShare} arg38.view.writes (Elt F) f LS0) ∗ (∃ f, arg39.view.loc (c : Thread nD τ) ↦[arg39.view.set]{fullShare} arg39.view.writes (Elt F) f LS1) ∗ (∃ f, arg40.view.loc (c : Thread nD τ) ↦[arg40.view.set]{fullShare} arg40.view.writes (Elt F) f LS2)) -∗ K ⟨⟩))
          ⊢ wp frame (wpE (defs₀ (F := F)) Variants.none c none) E (cc0_inproj_conv_ssd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, ?_, ?_, ?_, ?_, ?_, ?_, ?_, ?_, ?_, ?_, fun E K => ?run⟩
  case run =>
    simp only [cc0_inproj_conv_ssd_eq_skeleton]; unfold cc0_inproj_conv_ssd_skel
    simp only [k0_part111_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part112_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg38.eq_unread hfs0; obtain rfl := harg39.eq_unread hfs1; obtain rfl := harg40.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [HS0]; · iexists _; iexact HS0
    isplitl [HS1]; · iexists _; iexact HS1
    iexists _; iexact HS2

end Cert.Kernel2Ideal.Own

end
-- ==== Proof.MixFrame.lean ====
/-
  The whole run of the projection call's ideal reading, from the runs of its body: it ends, its arguments stay, every counter ends at zero.
-/
module

public import proofs.«01_k».proof.Proof.MixRunB
public import Idealize.ShloMosaic.Lib.Claim

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the eight output buffers and of the three scratch buffers. -/
abbrev Outs (F : FTy → Type) : Type := Vec F S4x512x256 .bf16 × Vec F S1024x256 .bf16 × Vec F S1x4x640x256 .bf16 × Vec F S4x256x256 .bf16 × Vec F S4x8x256 .f32 × Vec F S1024x64 .bf16 × Vec F S1024x512 .bf16 × Vec F S1024x1024 .bf16 × Vec F S1032x512 .f32 × Vec F S1032x1536 .f32 × Vec F S2x128x512 .f32

/-- The body's run at the first point of a sequence, at the point's own buffers and blocks. -/
def runA (c : Dev nD) (t : Fin cfg0.N) (h0 : t.val % 4 = 0) :=
  bodyRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

/-- The body's run at a later point of a sequence, on the scratch that the point before left. -/
def runB (c : Dev nD) (t : Fin cfg0.N) (h0 : ¬t.val % 4 = 0) (p : Outs F) :=
  bodyRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) p.2.2.2.2.2.2.2.2.1 p.2.2.2.2.2.2.2.2.2.1 p.2.2.2.2.2.2.2.2.2.2

/-! The stores of a run cover each buffer. -/

theorem coverA_0 (c : Dev nD) (t : Fin cfg0.N) (h0 : t.val % 4 = 0) (y : S4x512x256.Idx) : ∃ pc ∈ (runA m c t h0).1, y ∈ pc.1.set :=
  View.cover_of_tiledL (runA m c t h0).1 S1x512x256.size (by sl_kernel_rfl) y

theorem coverA_1 (c : Dev nD) (t : Fin cfg0.N) (h0 : t.val % 4 = 0) (y : S1024x256.Idx) : ∃ pc ∈ (runA m c t h0).2.1, y ∈ pc.1.set :=
  View.cover_of_tiledL (runA m c t h0).2.1 S256x256.size (by sl_kernel_rfl) y

theorem coverA_2 (c : Dev nD) (t : Fin cfg0.N) (h0 : t.val % 4 = 0) (y : S1x4x640x256.Idx) : ∃ pc ∈ (runA m c t h0).2.2.1, y ∈ pc.1.set :=
  View.cover_of_tiledL (runA m c t h0).2.2.1 S1x1x640x256.size (by sl_kernel_rfl) y

theorem coverA_3 (c : Dev nD) (t : Fin cfg0.N) (h0 : t.val % 4 = 0) (y : S4x256x256.Idx) : ∃ pc ∈ (runA m c t h0).2.2.2.1, y ∈ pc.1.set :=
  View.cover_of_tiledL (runA m c t h0).2.2.2.1 S1x256x256.size (by sl_kernel_rfl) y

theorem coverA_4 (c : Dev nD) (t : Fin cfg0.N) (h0 : t.val % 4 = 0) (y : S4x8x256.Idx) : ∃ pc ∈ (runA m c t h0).2.2.2.2.1, y ∈ pc.1.set :=
  View.cover_of_tiledL (runA m c t h0).2.2.2.2.1 S1x8x256.size (by sl_kernel_rfl) y

theorem coverA_5 (c : Dev nD) (t : Fin cfg0.N) (h0 : t.val % 4 = 0) (y : S1024x64.Idx) : ∃ pc ∈ (runA m c t h0).2.2.2.2.2.1, y ∈ pc.1.set :=
  View.cover_of_tiledL (runA m c t h0).2.2.2.2.2.1 S256x64.size (by sl_kernel_rfl) y

theorem coverA_6 (c : Dev nD) (t : Fin cfg0.N) (h0 : t.val % 4 = 0) (y : S1024x512.Idx) : ∃ pc ∈ (runA m c t h0).2.2.2.2.2.2.1, y ∈ pc.1.set :=
  View.cover_of_tiledL (runA m c t h0).2.2.2.2.2.2.1 S256x512.size (by sl_kernel_rfl) y

theorem coverA_7 (c : Dev nD) (t : Fin cfg0.N) (h0 : t.val % 4 = 0) (y : S1024x1024.Idx) : ∃ pc ∈ (runA m c t h0).2.2.2.2.2.2.2.1, y ∈ pc.1.set :=
  View.cover_of_tiledL (runA m c t h0).2.2.2.2.2.2.2.1 S128x1024.size (by sl_kernel_rfl) y

theorem coverA_8 (c : Dev nD) (t : Fin cfg0.N) (h0 : t.val % 4 = 0) (y : S1032x512.Idx) : ∃ pc ∈ (runA m c t h0).2.2.2.2.2.2.2.2.1, y ∈ pc.1.set :=
  View.cover_of_tiledBy (runA m c t h0).2.2.2.2.2.2.2.2.1 ![8, 512] (by sl_kernel_rfl) y

theorem coverA_9 (c : Dev nD) (t : Fin cfg0.N) (h0 : t.val % 4 = 0) (y : S1032x1536.Idx) : ∃ pc ∈ (runA m c t h0).2.2.2.2.2.2.2.2.2.1, y ∈ pc.1.set :=
  View.cover_of_tiledBy (runA m c t h0).2.2.2.2.2.2.2.2.2.1 ![8, 1536] (by sl_kernel_rfl) y

theorem coverA_10 (c : Dev nD) (t : Fin cfg0.N) (h0 : t.val % 4 = 0) (y : S2x128x512.Idx) : ∃ pc ∈ (runA m c t h0).2.2.2.2.2.2.2.2.2.2.1, y ∈ pc.1.set :=
  View.cover_of_wholeMem (runA m c t h0).2.2.2.2.2.2.2.2.2.2.1 (by unfold runA bodyRunA; sl_whole_mem) y

/-- What that run leaves. -/
def outsA (c : Dev nD) (t : Fin cfg0.N) (h0 : t.val % 4 = 0) : Outs F :=
  (VO0_29.read (Elt F) (VO0_29.writes (Elt F) VO0_29.junk (runA m c t h0).1),
   VO0_30.read (Elt F) (VO0_30.writes (Elt F) VO0_30.junk (runA m c t h0).2.1),
   VO0_31.read (Elt F) (VO0_31.writes (Elt F) VO0_31.junk (runA m c t h0).2.2.1),
   VO0_32.read (Elt F) (VO0_32.writes (Elt F) VO0_32.junk (runA m c t h0).2.2.2.1),
   VO0_33.read (Elt F) (VO0_33.writes (Elt F) VO0_33.junk (runA m c t h0).2.2.2.2.1),
   VO0_34.read (Elt F) (VO0_34.writes (Elt F) VO0_34.junk (runA m c t h0).2.2.2.2.2.1),
   VO0_35.read (Elt F) (VO0_35.writes (Elt F) VO0_35.junk (runA m c t h0).2.2.2.2.2.2.1),
   VO0_36.read (Elt F) (VO0_36.writes (Elt F) VO0_36.junk (runA m c t h0).2.2.2.2.2.2.2.1),
   VS0_0.read (Elt F) (VS0_0.writes (Elt F) VS0_0.junk (runA m c t h0).2.2.2.2.2.2.2.2.1),
   VS0_1.read (Elt F) (VS0_1.writes (Elt F) VS0_1.junk (runA m c t h0).2.2.2.2.2.2.2.2.2.1),
   VS0_2.read (Elt F) (VS0_2.writes (Elt F) VS0_2.junk (runA m c t h0).2.2.2.2.2.2.2.2.2.2.1))

/-! The stores of a run cover each buffer. -/

theorem coverB_0 (c : Dev nD) (t : Fin cfg0.N) (h0 : ¬t.val % 4 = 0) (p : Outs F) (y : S4x512x256.Idx) : ∃ pc ∈ (runB m c t h0 p).1, y ∈ pc.1.set :=
  View.cover_of_tiledL (runB m c t h0 p).1 S1x512x256.size (by sl_kernel_rfl) y

theorem coverB_1 (c : Dev nD) (t : Fin cfg0.N) (h0 : ¬t.val % 4 = 0) (p : Outs F) (y : S1024x256.Idx) : ∃ pc ∈ (runB m c t h0 p).2.1, y ∈ pc.1.set :=
  View.cover_of_tiledL (runB m c t h0 p).2.1 S256x256.size (by sl_kernel_rfl) y

theorem coverB_2 (c : Dev nD) (t : Fin cfg0.N) (h0 : ¬t.val % 4 = 0) (p : Outs F) (y : S1x4x640x256.Idx) : ∃ pc ∈ (runB m c t h0 p).2.2.1, y ∈ pc.1.set :=
  View.cover_of_tiledL (runB m c t h0 p).2.2.1 S1x1x640x256.size (by sl_kernel_rfl) y

theorem coverB_3 (c : Dev nD) (t : Fin cfg0.N) (h0 : ¬t.val % 4 = 0) (p : Outs F) (y : S4x256x256.Idx) : ∃ pc ∈ (runB m c t h0 p).2.2.2.1, y ∈ pc.1.set :=
  View.cover_of_tiledL (runB m c t h0 p).2.2.2.1 S1x256x256.size (by sl_kernel_rfl) y

theorem coverB_4 (c : Dev nD) (t : Fin cfg0.N) (h0 : ¬t.val % 4 = 0) (p : Outs F) (y : S4x8x256.Idx) : ∃ pc ∈ (runB m c t h0 p).2.2.2.2.1, y ∈ pc.1.set :=
  View.cover_of_tiledL (runB m c t h0 p).2.2.2.2.1 S1x8x256.size (by sl_kernel_rfl) y

theorem coverB_5 (c : Dev nD) (t : Fin cfg0.N) (h0 : ¬t.val % 4 = 0) (p : Outs F) (y : S1024x64.Idx) : ∃ pc ∈ (runB m c t h0 p).2.2.2.2.2.1, y ∈ pc.1.set :=
  View.cover_of_tiledL (runB m c t h0 p).2.2.2.2.2.1 S256x64.size (by sl_kernel_rfl) y

theorem coverB_6 (c : Dev nD) (t : Fin cfg0.N) (h0 : ¬t.val % 4 = 0) (p : Outs F) (y : S1024x512.Idx) : ∃ pc ∈ (runB m c t h0 p).2.2.2.2.2.2.1, y ∈ pc.1.set :=
  View.cover_of_tiledL (runB m c t h0 p).2.2.2.2.2.2.1 S256x512.size (by sl_kernel_rfl) y

theorem coverB_7 (c : Dev nD) (t : Fin cfg0.N) (h0 : ¬t.val % 4 = 0) (p : Outs F) (y : S1024x1024.Idx) : ∃ pc ∈ (runB m c t h0 p).2.2.2.2.2.2.2.1, y ∈ pc.1.set :=
  View.cover_of_tiledL (runB m c t h0 p).2.2.2.2.2.2.2.1 S128x1024.size (by sl_kernel_rfl) y

theorem coverB_8 (c : Dev nD) (t : Fin cfg0.N) (h0 : ¬t.val % 4 = 0) (p : Outs F) (y : S1032x512.Idx) : ∃ pc ∈ (runB m c t h0 p).2.2.2.2.2.2.2.2.1, y ∈ pc.1.set :=
  View.cover_of_tiledBy (runB m c t h0 p).2.2.2.2.2.2.2.2.1 ![8, 512] (by sl_kernel_rfl) y

theorem coverB_9 (c : Dev nD) (t : Fin cfg0.N) (h0 : ¬t.val % 4 = 0) (p : Outs F) (y : S1032x1536.Idx) : ∃ pc ∈ (runB m c t h0 p).2.2.2.2.2.2.2.2.2.1, y ∈ pc.1.set :=
  View.cover_of_tiledBy (runB m c t h0 p).2.2.2.2.2.2.2.2.2.1 ![8, 1536] (by sl_kernel_rfl) y

theorem coverB_10 (c : Dev nD) (t : Fin cfg0.N) (h0 : ¬t.val % 4 = 0) (p : Outs F) (y : S2x128x512.Idx) : ∃ pc ∈ (runB m c t h0 p).2.2.2.2.2.2.2.2.2.2.1, y ∈ pc.1.set :=
  View.cover_of_tiledL (runB m c t h0 p).2.2.2.2.2.2.2.2.2.2.1 S1x128x512.size (by sl_kernel_rfl) y

/-- What that run leaves. -/
def outsB (c : Dev nD) (t : Fin cfg0.N) (h0 : ¬t.val % 4 = 0) (p : Outs F) : Outs F :=
  (VO0_29.read (Elt F) (VO0_29.writes (Elt F) VO0_29.junk (runB m c t h0 p).1),
   VO0_30.read (Elt F) (VO0_30.writes (Elt F) VO0_30.junk (runB m c t h0 p).2.1),
   VO0_31.read (Elt F) (VO0_31.writes (Elt F) VO0_31.junk (runB m c t h0 p).2.2.1),
   VO0_32.read (Elt F) (VO0_32.writes (Elt F) VO0_32.junk (runB m c t h0 p).2.2.2.1),
   VO0_33.read (Elt F) (VO0_33.writes (Elt F) VO0_33.junk (runB m c t h0 p).2.2.2.2.1),
   VO0_34.read (Elt F) (VO0_34.writes (Elt F) VO0_34.junk (runB m c t h0 p).2.2.2.2.2.1),
   VO0_35.read (Elt F) (VO0_35.writes (Elt F) VO0_35.junk (runB m c t h0 p).2.2.2.2.2.2.1),
   VO0_36.read (Elt F) (VO0_36.writes (Elt F) VO0_36.junk (runB m c t h0 p).2.2.2.2.2.2.2.1),
   VS0_0.read (Elt F) (VS0_0.writes (Elt F) VS0_0.junk (runB m c t h0 p).2.2.2.2.2.2.2.2.1),
   VS0_1.read (Elt F) (VS0_1.writes (Elt F) VS0_1.junk (runB m c t h0 p).2.2.2.2.2.2.2.2.2.1),
   VS0_2.read (Elt F) (VS0_2.writes (Elt F) VS0_2.junk (runB m c t h0 p).2.2.2.2.2.2.2.2.2.2.1))

/-- What the buffers hold after the points up to the `n`-th. -/
def outsAt (c : Dev nD) : (n : ℕ) → n < cfg0.N → Outs F
  | 0, hn => outsA m c ⟨0, hn⟩ (Nat.zero_mod _)
  | n + 1, hn =>
    if h0 : (n + 1) % 4 = 0 then outsA m c ⟨n + 1, hn⟩ h0
    else outsB m c ⟨n + 1, hn⟩ h0 (outsAt c n (Nat.lt_of_succ_lt hn))

theorem outsAt_A (c : Dev nD) (t : Fin cfg0.N) (h0 : t.val % 4 = 0) : outsAt m c t.val t.isLt = outsA m c t h0 := by
  obtain ⟨n, hn⟩ := t
  cases n with
  | zero => rfl
  | succ n => exact dif_pos h0

theorem outsAt_B (c : Dev nD) (t : Fin cfg0.N) (h0 : ¬t.val % 4 = 0) :
    outsAt m c t.val t.isLt = outsB m c t h0 (outsAt m c (t.val - 1) (Nat.lt_of_le_of_lt (Nat.sub_le _ _) t.isLt)) := by
  obtain ⟨n, hn⟩ := t
  cases n with
  | zero => exact absurd (Nat.zero_mod _) h0
  | succ n => exact dif_neg h0

/-- The region invariant before position `n` with a scratch the kernel CARRIES between points: before the first point the
    class's (Lib/Pipeline/Frame.lean `ΦA`: every scratch at anything); afterwards the scoped rest with each carried scratch
    at what the point before left in it (`outsAt`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.2.2.2.2.2.1) ∗ owns (c : Thread nD τ) scM0_1 fullShare ((outsAt m c n hn).2.2.2.2.2.2.2.2.2.1) ∗ owns (c : Thread nD τ) scM0_2 fullShare ((outsAt m c n hn).2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt m c n hn).2.2.2.2.2.2.2.2.1) ∗ owns (c : Thread nD τ) scM0_1 fullShare ((outsAt m c n hn).2.2.2.2.2.2.2.2.2.1) ∗ owns (c : Thread nD τ) scM0_2 fullShare ((outsAt m c n hn).2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt m c (n - 1) (by omega)).2.2.2.2.2.2.2.2.1) ∗ owns (c : Thread nD τ) scM0_1 fullShare ((outsAt m c (n - 1) (by omega)).2.2.2.2.2.2.2.2.2.1) ∗ owns (c : Thread nD τ) scM0_2 fullShare ((outsAt m c (n - 1) (by omega)).2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt`; the invariant the class's
    (`PhiS`: the class's `ΦA` before the first point, then the scoped rest with the carried scratch at `outsAt`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => (outsAt m c t.val t.isLt).1
    | ⟨30, _⟩ => (outsAt m c t.val t.isLt).2.1
    | ⟨31, _⟩ => (outsAt m c t.val t.isLt).2.2.1
    | ⟨32, _⟩ => (outsAt m c t.val t.isLt).2.2.2.1
    | ⟨33, _⟩ => (outsAt m c t.val t.isLt).2.2.2.2.1
    | ⟨34, _⟩ => (outsAt m c t.val t.isLt).2.2.2.2.2.1
    | ⟨35, _⟩ => (outsAt m c t.val t.isLt).2.2.2.2.2.2.1
    | ⟨36, _⟩ => (outsAt m c t.val t.isLt).2.2.2.2.2.2.2.1
    | ⟨_ + 37, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = (outsAt m c t.val t.isLt).1 := by dsimp only [dats]
theorem after0_30 (c : Dev nD) (t : Fin cfg0.N) : (dats m 0 c).after 30 t = (outsAt m c t.val t.isLt).2.1 := by dsimp only [dats]
theorem after0_31 (c : Dev nD) (t : Fin cfg0.N) : (dats m 0 c).after 31 t = (outsAt m c t.val t.isLt).2.2.1 := by dsimp only [dats]
theorem after0_32 (c : Dev nD) (t : Fin cfg0.N) : (dats m 0 c).after 32 t = (outsAt m c t.val t.isLt).2.2.2.1 := by dsimp only [dats]
theorem after0_33 (c : Dev nD) (t : Fin cfg0.N) : (dats m 0 c).after 33 t = (outsAt m c t.val t.isLt).2.2.2.2.1 := by dsimp only [dats]
theorem after0_34 (c : Dev nD) (t : Fin cfg0.N) : (dats m 0 c).after 34 t = (outsAt m c t.val t.isLt).2.2.2.2.2.1 := by dsimp only [dats]
theorem after0_35 (c : Dev nD) (t : Fin cfg0.N) : (dats m 0 c).after 35 t = (outsAt m c t.val t.isLt).2.2.2.2.2.2.1 := by dsimp only [dats]
theorem after0_36 (c : Dev nD) (t : Fin cfg0.N) : (dats m 0 c).after 36 t = (outsAt m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t))

set_option maxHeartbeats 40000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases hz : t.val = 0
    · rw [PhiS_castSucc m c t, PhiS_zero m c _ _ hz, PhiA0_eq]
      rw [outsAt_A m c t h0]
      unfold outsA; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
      iapply ((runA m c t h0).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexists _; iexact H29
      isplitl [H30]; · iexists _; iexact H30
      isplitl [H31]; · iexists _; iexact H31
      isplitl [H32]; · iexists _; iexact H32
      isplitl [H33]; · iexists _; iexact H33
      isplitl [H34]; · iexists _; iexact H34
      isplitl [H35]; · iexists _; iexact H35
      isplitl [H36]; · iexists _; iexact H36
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩, ⟨%e32, H32⟩, ⟨%e33, H33⟩, ⟨%e34, H34⟩, ⟨%e35, H35⟩, ⟨%e36, H36⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA_8 m c t h0)
          isplitl [HS1]
          · unfold owns; iexists _; isplitr
            swap; · iexact HS1
            ipureintro; exact View.read_writes_of_cover _ _ _ _ _ (coverA_9 m c t h0)
          unfold owns; iexists _; isplitr
          swap; · iexact HS2
          ipureintro; exact View.read_writes_of_cover _ _ _ _ _ (coverA_10 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]
      · unfold owns; iexists _; isplitr
        swap; · iexact H29
        ipureintro; exact View.read_writes_of_cover _ _ _ _ _ (coverA_0 m c t h0)
      isplitl [H30]
      · unfold owns; iexists _; isplitr
        swap; · iexact H30
        ipureintro; exact View.read_writes_of_cover _ _ _ _ _ (coverA_1 m c t h0)
      isplitl [H31]
      · unfold owns; iexists _; isplitr
        swap; · iexact H31
        ipureintro; exact View.read_writes_of_cover _ _ _ _ _ (coverA_2 m c t h0)
      isplitl [H32]
      · unfold owns; iexists _; isplitr
        swap; · iexact H32
        ipureintro; exact View.read_writes_of_cover _ _ _ _ _ (coverA_3 m c t h0)
      isplitl [H33]
      · unfold owns; iexists _; isplitr
        swap; · iexact H33
        ipureintro; exact View.read_writes_of_cover _ _ _ _ _ (coverA_4 m c t h0)
      isplitl [H34]
      · unfold owns; iexists _; isplitr
        swap; · iexact H34
        ipureintro; exact View.read_writes_of_cover _ _ _ _ _ (coverA_5 m c t h0)
      isplitl [H35]
      · unfold owns; iexists _; isplitr
        swap; · iexact H35
        ipureintro; exact View.read_writes_of_cover _ _ _ _ _ (coverA_6 m c t h0)
      unfold owns; iexists _; isplitr
      swap; · iexact H36
      ipureintro; exact View.read_writes_of_cover _ _ _ _ _ (coverA_7 m c t h0)
    · rw [PhiS_castSucc m c t, PhiS_pos m c _ _ hz]
      rw [outsAt_A m c t h0]
      unfold outsA; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
      iapply ((runA m c t h0).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexists _; iexact H29
      isplitl [H30]; · iexists _; iexact H30
      isplitl [H31]; · iexists _; iexact H31
      isplitl [H32]; · iexists _; iexact H32
      isplitl [H33]; · iexists _; iexact H33
      isplitl [H34]; · iexists _; iexact H34
      isplitl [H35]; · iexists _; iexact H35
      isplitl [H36]; · iexists _; iexact H36
      isplitl [HS0]; · iexists _; iexact HS0
      isplitl [HS1]; · iexists _; iexact HS1
      isplitl [HS2]; · iexists _; iexact HS2
      iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩, ⟨%e32, H32⟩, ⟨%e33, H33⟩, ⟨%e34, H34⟩, ⟨%e35, H35⟩, ⟨%e36, H36⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA_8 m c t h0)
          isplitl [HS1]
          · unfold owns; iexists _; isplitr
            swap; · iexact HS1
            ipureintro; exact View.read_writes_of_cover _ _ _ _ _ (coverA_9 m c t h0)
          unfold owns; iexists _; isplitr
          swap; · iexact HS2
          ipureintro; exact View.read_writes_of_cover _ _ _ _ _ (coverA_10 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]
      · unfold owns; iexists _; isplitr
        swap; · iexact H29
        ipureintro; exact View.read_writes_of_cover _ _ _ _ _ (coverA_0 m c t h0)
      isplitl [H30]
      · unfold owns; iexists _; isplitr
        swap; · iexact H30
        ipureintro; exact View.read_writes_of_cover _ _ _ _ _ (coverA_1 m c t h0)
      isplitl [H31]
      · unfold owns; iexists _; isplitr
        swap; · iexact H31
        ipureintro; exact View.read_writes_of_cover _ _ _ _ _ (coverA_2 m c t h0)
      isplitl [H32]
      · unfold owns; iexists _; isplitr
        swap; · iexact H32
        ipureintro; exact View.read_writes_of_cover _ _ _ _ _ (coverA_3 m c t h0)
      isplitl [H33]
      · unfold owns; iexists _; isplitr
        swap; · iexact H33
        ipureintro; exact View.read_writes_of_cover _ _ _ _ _ (coverA_4 m c t h0)
      isplitl [H34]
      · unfold owns; iexists _; isplitr
        swap; · iexact H34
        ipureintro; exact View.read_writes_of_cover _ _ _ _ _ (coverA_5 m c t h0)
      isplitl [H35]
      · unfold owns; iexists _; isplitr
        swap; · iexact H35
        ipureintro; exact View.read_writes_of_cover _ _ _ _ _ (coverA_6 m c t h0)
      unfold owns; iexists _; isplitr
      swap; · iexact H36
      ipureintro; exact View.read_writes_of_cover _ _ _ _ _ (coverA_7 m c t h0)
  · by_cases hz : t.val = 0
    · exfalso; have hN : t.val < 32 := lt_of_lt_of_eq t.isLt (show cfg0.N = 32 from N_0); omega
    · rw [PhiS_castSucc m c t, PhiS_pos m c _ _ hz]
      rw [outsAt_B m c t h0]
      unfold outsB; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
      iapply ((runB m c t h0 (outsAt m c (t.val - 1) (Nat.lt_of_le_of_lt (Nat.sub_le _ _) t.isLt))).2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexists _; iexact H29
      isplitl [H30]; · iexists _; iexact H30
      isplitl [H31]; · iexists _; iexact H31
      isplitl [H32]; · iexists _; iexact H32
      isplitl [H33]; · iexists _; iexact H33
      isplitl [H34]; · iexists _; iexact H34
      isplitl [H35]; · iexists _; iexact H35
      isplitl [H36]; · iexists _; iexact H36
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩, ⟨%e32, H32⟩, ⟨%e33, H33⟩, ⟨%e34, H34⟩, ⟨%e35, H35⟩, ⟨%e36, H36⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverB_8 m c t h0 _)
          isplitl [HS1]
          · unfold owns; iexists _; isplitr
            swap; · iexact HS1
            ipureintro; exact View.read_writes_of_cover _ _ _ _ _ (coverB_9 m c t h0 _)
          unfold owns; iexists _; isplitr
          swap; · iexact HS2
          ipureintro; exact View.read_writes_of_cover _ _ _ _ _ (coverB_10 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]
      · unfold owns; iexists _; isplitr
        swap; · iexact H29
        ipureintro; exact View.read_writes_of_cover _ _ _ _ _ (coverB_0 m c t h0 _)
      isplitl [H30]
      · unfold owns; iexists _; isplitr
        swap; · iexact H30
        ipureintro; exact View.read_writes_of_cover _ _ _ _ _ (coverB_1 m c t h0 _)
      isplitl [H31]
      · unfold owns; iexists _; isplitr
        swap; · iexact H31
        ipureintro; exact View.read_writes_of_cover _ _ _ _ _ (coverB_2 m c t h0 _)
      isplitl [H32]
      · unfold owns; iexists _; isplitr
        swap; · iexact H32
        ipureintro; exact View.read_writes_of_cover _ _ _ _ _ (coverB_3 m c t h0 _)
      isplitl [H33]
      · unfold owns; iexists _; isplitr
        swap; · iexact H33
        ipureintro; exact View.read_writes_of_cover _ _ _ _ _ (coverB_4 m c t h0 _)
      isplitl [H34]
      · unfold owns; iexists _; isplitr
        swap; · iexact H34
        ipureintro; exact View.read_writes_of_cover _ _ _ _ _ (coverB_5 m c t h0 _)
      isplitl [H35]
      · unfold owns; iexists _; isplitr
        swap; · iexact H35
        ipureintro; exact View.read_writes_of_cover _ _ _ _ _ (coverB_6 m c t h0 _)
      unfold owns; iexists _; isplitr
      swap; · iexact H36
      ipureintro; exact View.read_writes_of_cover _ _ _ _ _ (coverB_7 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 12000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- The kernel terminates, with its argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Kernel2Ideal.Own

end
-- ==== Proof.MixValue.lean ====
module

public import proofs.«01_k».proof.Proof.MixFrame

/-! What the mixer call leaves in its eight result arrays, from the data of its frame. -/

@[expose] public section

set_option maxRecDepth 16384

noncomputable section

namespace Cert.Kernel2Ideal.Own

open Cert.Kernel2Ideal Cert.Kernel2Ideal.Gen
open Idealize.ShloMosaic Idealize.ShloMosaic.TcCoe Idealize.SL.Sem

variable {F : FTy → Type} [FloatOps F] (m : (ℓ : Loc nD τ sig) → Buf (Elt F) ℓ) (ρ : Dev nD → PrngReg)

set_option maxHeartbeats 8000000 in
/-- The kernel terminates with its result arrays holding what the output blocks leave there, and its argument arrays unchanged. -/
theorem run_blocks : θ_run defs (onTc (τ := τ) (main (F := F))) ⟨m, fun _ => 0, ρ⟩ fun r => ∀ c : Dev nD,
      r.2.mem ((c : Thread nD τ).loc main_v41_0) = (dats m 0 c).arrAt 29 cfg0.N
      ∧ r.2.mem ((c : Thread nD τ).loc main_v41_1) = (dats m 0 c).arrAt 30 cfg0.N
      ∧ r.2.mem ((c : Thread nD τ).loc main_v41_2) = (dats m 0 c).arrAt 31 cfg0.N
      ∧ r.2.mem ((c : Thread nD τ).loc main_v41_3) = (dats m 0 c).arrAt 32 cfg0.N
      ∧ r.2.mem ((c : Thread nD τ).loc main_v41_4) = (dats m 0 c).arrAt 33 cfg0.N
      ∧ r.2.mem ((c : Thread nD τ).loc main_v41_5) = (dats m 0 c).arrAt 34 cfg0.N
      ∧ r.2.mem ((c : Thread nD τ).loc main_v41_6) = (dats m 0 c).arrAt 35 cfg0.N
      ∧ r.2.mem ((c : Thread nD τ).loc main_v41_7) = (dats m 0 c).arrAt 36 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun _ h c => ⟨(h c).1 29, (h c).1 30, (h c).1 31, (h c).1 32, (h c).1 33, (h c).1 34, (h c).1 35, (h c).1 36,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).1 10).trans (((dats m 0 c).arrAt_in 10 rfl _).trans ((A_eq m c 10).trans (V_main_arg9 m c))),
      ((h c).1 11).trans (((dats m 0 c).arrAt_in 11 rfl _).trans ((A_eq m c 11).trans (V_main_arg10 m c))),
      ((h c).1 12).trans (((dats m 0 c).arrAt_in 12 rfl _).trans ((A_eq m c 12).trans (V_main_arg11 m c))),
      ((h c).1 13).trans (((dats m 0 c).arrAt_in 13 rfl _).trans ((A_eq m c 13).trans (V_main_arg12 m c))),
      ((h c).2 main_arg13 (Pipeline.mem_restRefs_of main_arg13 (by decide) (by decide))).trans (V_main_arg13 m c),
      ((h c).1 17).trans (((dats m 0 c).arrAt_in 17 rfl _).trans ((A_eq m c 17).trans (V_main_arg14 m c))),
      ((h c).1 18).trans (((dats m 0 c).arrAt_in 18 rfl _).trans ((A_eq m c 18).trans (V_main_arg15 m c))),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) (run_main m ρ)

end Cert.Kernel2Ideal.Own
-- ==== Proof.MixerSpec.lean ====
/-
  The projections of the layer that the attention reads, written for one token of the arguments: the functions that both the kernel and the
  reference are shown to compute.
-/
module

public import proofs.«01_k».proof.Proof.DenseSpec

@[expose] public section

noncomputable section

open Idealize.ShloMosaic Cert.Dense
open scoped BigOperators

namespace Cert.Mixer

/-- The arguments of the call as plain arrays. -/
structure Args where
  x : (⟨2, ![32768, 1024]⟩ : Shape).Idx → EReal
  g : (⟨1, ![1024]⟩ : Shape).Idx → EReal
  kvg : (⟨1, ![256]⟩ : Shape).Idx → EReal
  ikg : (⟨1, ![64]⟩ : Shape).Idx → EReal
  ikb : (⟨1, ![64]⟩ : Shape).Idx → EReal
  wq : (⟨2, ![1024, 512]⟩ : Shape).Idx → EReal
  wckv : (⟨2, ![1024, 256]⟩ : Shape).Idx → EReal
  wiq : (⟨2, ![1024, 256]⟩ : Shape).Idx → EReal
  wsm : (⟨2, ![1024, 128]⟩ : Shape).Idx → EReal
  wb : (⟨2, ![1024, 1536]⟩ : Shape).Idx → EReal
  wz : (⟨2, ![1024, 1024]⟩ : Shape).Idx → EReal
  wxbc : (⟨2, ![1024, 1536]⟩ : Shape).Idx → EReal
  wdt : (⟨2, ![1024, 128]⟩ : Shape).Idx → EReal
  wuv : (⟨3, ![256, 8, 64]⟩ : Shape).Idx → EReal
  scw : (⟨2, ![3, 512]⟩ : Shape).Idx → EReal
  cw : (⟨2, ![4, 1536]⟩ : Shape).Idx → EReal
  cb : (⟨1, ![1536]⟩ : Shape).Idx → EReal
  dtb : (⟨1, ![16]⟩ : Shape).Idx → EReal
  alog : (⟨1, ![16]⟩ : Shape).Idx → EReal
  d : (⟨1, ![16]⟩ : Shape).Idx → EReal
  nw : (⟨1, ![1024]⟩ : Shape).Idx → EReal

variable (A : Args) (n : Fin 32768)

/-- A token's normalised row. -/
def hid : Fin 1024 → EReal := rms (fun k => A.x (ix2 n k)) (fun k => A.g (ix1 k))

/-- The normalised row times a matrix. -/
def proj {N : ℕ} (W : (⟨2, ![1024, N]⟩ : Shape).Idx → EReal) (j : Fin N) : EReal := ∑ k, hid A n k * W (ix2 k j)

/-- The compressed keys and values of a token, normalised. -/
def ckv (j : Fin 256) : EReal :=
  proj A n A.wckv j * Ideal.rsqrt (Ideal.div (∑ k, proj A n A.wckv k * proj A n A.wckv k) (Ideal.ofBits .f32 0x43800000#32)
    + Ideal.ofBits .f32 0x358637BD#32) * A.kvg (ix1 j)

/-- The values of a token by heads: 64 numbers, a one and 15 zeros each. -/
def val (r : Fin 640) : EReal :=
  if h : r.val % 80 < 64 then ∑ k, ckv A n k * A.wuv (ix3 k ⟨r.val / 80, by omega⟩ ⟨r.val % 80, h⟩) else if r.val % 80 = 64 then 1 else 0

/-- The queries of the index heads. -/
def iq (j : Fin 256) : EReal := proj A n A.wiq j * Ideal.ofBits .f32 0x3E000000#32

/-- The weights of the index heads. -/
def iw (j : Fin 8) : EReal := proj A n A.wsm ⟨64 + j.val, by omega⟩ * Ideal.ofBits .f32 0x3F000000#32

/-- The index key before its normalisation, and its mean. -/
def ikRow (j : Fin 64) : EReal := proj A n A.wsm ⟨j.val, by omega⟩
def ikMean : EReal := Ideal.div (∑ k, ikRow A n k) (Ideal.ofBits .f32 0x42800000#32)

/-- The index key of a token. -/
def ik (j : Fin 64) : EReal :=
  (ikRow A n j - ikMean A n) * Ideal.rsqrt (Ideal.div (∑ k, (ikRow A n k - ikMean A n) * (ikRow A n k - ikMean A n)) (Ideal.ofBits .f32 0x42800000#32)
    + Ideal.ofBits .f32 0x358637BD#32) * A.ikg (ix1 j) + A.ikb (ix1 j)

/-! ## The result arrays -/

/-- Token `b` of tile `a`. -/
def tile (a : Fin 128) (b : Fin 256) : Fin 32768 := ⟨a.val * 256 + b.val, by omega⟩

def outQ (i : (⟨3, ![128, 512, 256]⟩ : Shape).Idx) : EReal := proj A (tile (i 0) (i 2)) A.wq (i 1)
def outCkv (i : (⟨2, ![32768, 256]⟩ : Shape).Idx) : EReal := ckv A (i 0) (i 1)
def outV (i : (⟨4, ![8, 16, 640, 256]⟩ : Shape).Idx) : EReal :=
  val A ⟨(i 0).val * 4096 + (i 1).val * 256 + (i 3).val, by
    have h0 : (i 0).val < 8 := (i 0).isLt
    have h1 : (i 1).val < 16 := (i 1).isLt
    have h3 : (i 3).val < 256 := (i 3).isLt
    omega⟩ (i 2)
def outIq (i : (⟨3, ![128, 256, 256]⟩ : Shape).Idx) : EReal := iq A (tile (i 0) (i 2)) (i 1)
def outIw (i : (⟨3, ![128, 8, 256]⟩ : Shape).Idx) : EReal := iw A (tile (i 0) (i 2)) (i 1)
def outIk (i : (⟨2, ![32768, 64]⟩ : Shape).Idx) : EReal := ik A (i 0) (i 1)

end Cert.Mixer
-- ==== Proof.MixTile.lean ====
/-
  The projections of one tile of 256 tokens: what the mixer call's stored arrays hold at an index, from the tile's normalised rows.
-/
module

public import proofs.«01_k».proof.Proof.MixFrame
public import proofs.«01_k».proof.Proof.MixerSpec
public import Idealize.ShloMosaic.Lib.Pipeline.ValueKit

@[expose] public section

set_option maxRecDepth 16384

noncomputable section

open Idealize.ShloMosaic Idealize.ShloMosaic.TcCoe Cert.Kernel2Ideal Cert.Kernel2Ideal.Gen Cert.Dense
open scoped BigOperators

namespace Cert.Mixer.Tile

theorem weight_lt (j : Fin 8) : 64 + j.val < 128 := by omega
theorem head_lt (r : Fin 640) : r.val / 80 < 8 := by omega

/-! ## The normalised rows -/

section Rows
variable (x : Vec Ideal S256x1024 .f32) (g : Vec Ideal S1x1024 .f32) (b : Fin 256) (j : Fin 1024)

theorem row0 : k0_pay7 x g (ix2 b j) = rms (fun k => x (ix2 b k)) (fun k => g (ix2 0 k)) j := by
  pointwise [k0_pay7, rms]
theorem row1 : k0_pay10 x (k0_pay8 g) (k0_pay9 x) (ix2 b j) = rms (fun k => x (ix2 b k)) (fun k => g (ix2 0 k)) j := by
  pointwise [k0_pay8, k0_pay9, k0_pay10, rms]
theorem row2 : k0_pay11 x g (ix2 b j) = rms (fun k => x (ix2 b k)) (fun k => g (ix2 0 k)) j := by
  pointwise [k0_pay11, rms]
theorem row3 : k0_pay12 x g (ix2 b j) = rms (fun k => x (ix2 b k)) (fun k => g (ix2 0 k)) j := by
  pointwise [k0_pay12, rms]

end Rows

variable {A : Args} {n : Fin 32768} {h : FVec Ideal S256x1024 .bf16} {b : Fin 256} (hh : ∀ k, h (ix2 b k) = hid A n k)

include hh

/-! ## The queries -/

section
variable {w : Vec Ideal S512x1024 .bf16} (j : Fin 512) (hw : ∀ k, w (ix2 j k) = A.wq (ix2 k j))

include hw

theorem q3 : k0_pay645 h w (ix3 0 j b) = proj A n A.wq j := by
  have e : ∀ k, w (ix2 j k) * h (ix2 b k) = hid A n k * (A.wq (ix2 k j)) := fun k => by rw [hh, hw, mul_comm]
  pointwise [k0_pay645]
  simp only [proj, e]
theorem q2 : k0_pay620 h w (ix3 0 j b) = proj A n A.wq j := by
  have e : ∀ k, w (ix2 j k) * h (ix2 b k) = hid A n k * (A.wq (ix2 k j)) := fun k => by rw [hh, hw, mul_comm]
  pointwise [k0_pay620]
  simp only [proj, e]
theorem q1 : k0_pay593 h w (ix3 0 j b) = proj A n A.wq j := by
  have e : ∀ k, w (ix2 j k) * h (ix2 b k) = hid A n k * (A.wq (ix2 k j)) := fun k => by rw [hh, hw, mul_comm]
  pointwise [k0_pay593]
  simp only [proj, e]
theorem q0 : k0_pay556 h w (ix3 0 j b) = proj A n A.wq j := by
  have e : ∀ k, w (ix2 j k) * h (ix2 b k) = hid A n k * (A.wq (ix2 k j)) := fun k => by rw [hh, hw, mul_comm]
  pointwise [k0_pay556]
  simp only [proj, e]

end

/-! ## The index heads' queries -/

section
variable {w : Vec Ideal S256x1024 .bf16} (j : Fin 256) (hw : ∀ k, w (ix2 j k) = A.wiq (ix2 k j))

include hw

theorem iq3 : k0_pay646 h w (ix3 0 j b) = iq A n j := by
  have e : ∀ k, w (ix2 j k) * h (ix2 b k) = hid A n k * (A.wiq (ix2 k j)) := fun k => by rw [hh, hw, mul_comm]
  pointwise [k0_pay646]
  simp only [iq, proj, e]
theorem iq2 : k0_pay621 h w (ix3 0 j b) = iq A n j := by
  have e : ∀ k, w (ix2 j k) * h (ix2 b k) = hid A n k * (A.wiq (ix2 k j)) := fun k => by rw [hh, hw, mul_comm]
  pointwise [k0_pay621]
  simp only [iq, proj, e]
theorem iq1 : k0_pay595 (k0_pay594 h w) (ix3 0 j b) = iq A n j := by
  have e : ∀ k, w (ix2 j k) * h (ix2 b k) = hid A n k * (A.wiq (ix2 k j)) := fun k => by rw [hh, hw, mul_comm]
  pointwise [k0_pay594, k0_pay595]
  simp only [iq, proj, e]
theorem iq0 : k0_pay557 h w (ix3 0 j b) = iq A n j := by
  have e : ∀ k, w (ix2 j k) * h (ix2 b k) = hid A n k * (A.wiq (ix2 k j)) := fun k => by rw [hh, hw, mul_comm]
  pointwise [k0_pay557]
  simp only [iq, proj, e]

end

/-! ## The index heads' weights -/

section
variable {w : Vec Ideal S8x1024 .bf16} (j : Fin 8) (hw : ∀ k, w (ix2 j k) = A.wsm (ix2 k ⟨64 + j.val, weight_lt j⟩))

include hw

theorem iw3 : k0_pay647 h w (ix3 0 j b) = iw A n j := by
  have e : ∀ k, w (ix2 j k) * h (ix2 b k) = hid A n k * (A.wsm (ix2 k ⟨64 + j.val, weight_lt j⟩)) := fun k => by rw [hh, hw, mul_comm]
  pointwise [k0_pay647]
  simp only [iw, proj, e]
theorem iw2 : k0_pay622 h w (ix3 0 j b) = iw A n j := by
  have e : ∀ k, w (ix2 j k) * h (ix2 b k) = hid A n k * (A.wsm (ix2 k ⟨64 + j.val, weight_lt j⟩)) := fun k => by rw [hh, hw, mul_comm]
  pointwise [k0_pay622]
  simp only [iw, proj, e]
theorem iw1 : k0_pay596 h w (ix3 0 j b) = iw A n j := by
  have e : ∀ k, w (ix2 j k) * h (ix2 b k) = hid A n k * (A.wsm (ix2 k ⟨64 + j.val, weight_lt j⟩)) := fun k => by rw [hh, hw, mul_comm]
  pointwise [k0_pay596]
  simp only [iw, proj, e]
theorem iw0 : k0_pay559 (k0_pay558 h w) (ix3 0 j b) = iw A n j := by
  have e : ∀ k, w (ix2 j k) * h (ix2 b k) = hid A n k * (A.wsm (ix2 k ⟨64 + j.val, weight_lt j⟩)) := fun k => by rw [hh, hw, mul_comm]
  pointwise [k0_pay558, k0_pay559]
  simp only [iw, proj, e]

end

/-! ## The compressed keys and values -/

section
variable {w : Vec Ideal S1024x256 .bf16} {g : Vec Ideal S1x256 .f32} (hw : ∀ k j, w (ix2 k j) = A.wckv (ix2 k j)) (hg : ∀ j, g (ix2 0 j) = A.kvg (ix1 j))

include hw hg

theorem ckv3 (j : Fin 256) : k0_pay637 (k0_pay635 h w) (k0_pay636 g) (ix2 b j) = ckv A n j := by
  pointwise [k0_pay635, k0_pay636, k0_pay637]
  simp only [ckv, proj, hh, hw, hg]
theorem ckv2 (j : Fin 256) : k0_pay610 h w g (ix2 b j) = ckv A n j := by
  pointwise [k0_pay610]
  simp only [ckv, proj, hh, hw, hg]
theorem ckv1 (j : Fin 256) : k0_pay577 h w g (ix2 b j) = ckv A n j := by
  pointwise [k0_pay577]
  simp only [ckv, proj, hh, hw, hg]
theorem ckv0 (j : Fin 256) : k0_pay548 h w g (ix2 b j) = ckv A n j := by
  pointwise [k0_pay548]
  simp only [ckv, proj, hh, hw, hg]

end

/-! ## The index key -/

section
variable {w : Vec Ideal S1024x128 .bf16} {g a : Vec Ideal S1x64 .f32} (hw : ∀ k j, w (ix2 k j) = A.wsm (ix2 k j)) (hg : ∀ j, g (ix2 0 j) = A.ikg (ix1 j)) (ha : ∀ j, a (ix2 0 j) = A.ikb (ix1 j))

include hw hg ha

theorem ik3 (j : Fin 64) : k0_pay638 h w g a (ix2 b j) = ik A n j := by
  pointwise [k0_pay638]
  simp only [ik, ikMean, ikRow, proj, hh, hw, hg, ha]
theorem ik2 (j : Fin 64) : k0_pay614 (k0_pay611 h w) (k0_pay612 h w) (k0_pay613 h w) g a (ix2 b j) = ik A n j := by
  pointwise [k0_pay611, k0_pay612, k0_pay613, k0_pay614]
  simp only [ik, ikMean, ikRow, proj, hh, hw, hg, ha]
theorem ik1 (j : Fin 64) : k0_pay578 h w g a (ix2 b j) = ik A n j := by
  pointwise [k0_pay578]
  simp only [ik, ikMean, ikRow, proj, hh, hw, hg, ha]
theorem ik0 (j : Fin 64) : k0_pay552 (k0_pay549 h w) (k0_pay550 h w) (k0_pay551 h w) g a (ix2 b j) = ik A n j := by
  pointwise [k0_pay549, k0_pay550, k0_pay551, k0_pay552]
  simp only [ik, ikMean, ikRow, proj, hh, hw, hg, ha]

end

end Cert.Mixer.Tile

namespace Cert.Mixer.Tile

/-! ## The values by heads -/

section
variable {A : Args} {n : Fin 32768} {d : FVec Ideal S256x256 .bf16} {b : Fin 256} (hd : ∀ k, d (ix2 b k) = ckv A n k)
variable {w : Vec Ideal S640x256 .bf16} {o : Vec Ideal S640x1 .f32} (r : Fin 640)
  (hw : ∀ k, w (ix2 r k) = if h : r.val % 80 < 64 then A.wuv (ix3 k ⟨r.val / 80, head_lt r⟩ ⟨r.val % 80, h⟩) else (0 : EReal))
  (ho : o (ix2 r 0) = if r.val % 80 = 64 then (1 : EReal) else (0 : EReal))

include hd hw ho

theorem val_eq : (∑ k, (w (ix2 r k) : EReal) * (d (ix2 b k) : EReal)) + (o (ix2 r 0) : EReal) = val A n r := by
  rw [val, ho]
  by_cases h : r.val % 80 < 64
  · rw [dif_pos h, if_neg (by omega), add_zero]
    exact Finset.sum_congr rfl fun k _ => by rw [hw, dif_pos h, hd, mul_comm]
  · rw [dif_neg h, Finset.sum_eq_zero fun k _ => by rw [hw, dif_neg h, zero_mul], zero_add]

theorem v3 : k0_pay659 (k0_pay658 d w o) (ix4 0 0 r b) = val A n r := by
  rw [← val_eq hd r hw ho]
  pointwise [k0_pay658, k0_pay659]
theorem v2 : k0_pay628 d (k0_pay627 w) (constant S640x256 .f32 0#32) o (ix4 0 0 r b) = val A n r := by
  rw [← val_eq hd r hw ho]
  pointwise [k0_pay627, k0_pay628]
theorem v1 : k0_pay603 d w o (ix4 0 0 r b) = val A n r := by
  rw [← val_eq hd r hw ho]
  pointwise [k0_pay603]
theorem v0 : k0_pay567 (k0_pay566 d w o) (ix4 0 0 r b) = val A n r := by
  rw [← val_eq hd r hw ho]
  pointwise [k0_pay566, k0_pay567]

end

end Cert.Mixer.Tile
-- ==== Proof.MixArgs.lean ====
/-
  The mixer call's arguments in memory and what its windows' blocks hold of them.
-/
module

public import proofs.«01_k».proof.Proof.Gen.Kernel2Ideal.Frame.Runs
public import proofs.«01_k».proof.Proof.MixerSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Kernel2Ideal Cert.Kernel2Ideal.Gen Cert.Mixer
open Idealize.ShloMosaic.Pipeline (Dat)
open scoped BigOperators

namespace Cert.Mixer.Arr

variable (m : (ℓ : Loc nD τ sig) → Buf (Elt Ideal) ℓ)

/-- The arguments as the kernel finds them in memory. -/
def argsOf (c : Dev nD) : Args where
  x := m ((c : Thread nD τ).loc main_arg0)
  g := m ((c : Thread nD τ).loc main_arg1)
  kvg := m ((c : Thread nD τ).loc main_arg2)
  ikg := m ((c : Thread nD τ).loc main_arg3)
  ikb := m ((c : Thread nD τ).loc main_arg4)
  wq := m ((c : Thread nD τ).loc main_arg5)
  wckv := m ((c : Thread nD τ).loc main_arg6)
  wiq := m ((c : Thread nD τ).loc main_arg7)
  wsm := m ((c : Thread nD τ).loc main_arg8)
  wb := m ((c : Thread nD τ).loc main_arg9)
  wz := m ((c : Thread nD τ).loc main_arg10)
  wxbc := m ((c : Thread nD τ).loc main_arg11)
  wdt := m ((c : Thread nD τ).loc main_arg12)
  wuv := m ((c : Thread nD τ).loc main_arg13)
  scw := m ((c : Thread nD τ).loc main_arg14)
  cw := m ((c : Thread nD τ).loc main_arg15)
  cb := m ((c : Thread nD τ).loc main_arg16)
  dtb := m ((c : Thread nD τ).loc main_arg17)
  alog := m ((c : Thread nD τ).loc main_arg18)
  d := m ((c : Thread nD τ).loc main_arg19)
  nw := m ((c : Thread nD τ).loc main_arg20)

/-! Which blocks the windows read or write at a point, in closed form. -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0] := by decide +kernel
theorem idx17 : ∀ t : Fin cfg0.N, win0_17.index t = ![0, 0] := by decide +kernel
theorem idx18 : ∀ t : Fin cfg0.N, win0_18.index t = ![0, 0] := by decide +kernel
theorem idx19 : ∀ t : Fin cfg0.N, win0_19.index t = ![0, 0] := by decide +kernel
theorem idx20 : ∀ t : Fin cfg0.N, win0_20.index t = ![0, 0] := by decide +kernel
theorem idx21 : ∀ t : Fin cfg0.N, win0_21.index t = ![0, 0] := by decide +kernel
theorem idx22 : ∀ t : Fin cfg0.N, win0_22.index t = ![0, 0] := by decide +kernel
theorem idx23 : ∀ t : Fin cfg0.N, win0_23.index t = ![0, 0] := by decide +kernel
theorem idx24 : ∀ t : Fin cfg0.N, win0_24.index t = ![0, 0] := by decide +kernel
theorem idx25 : ∀ t : Fin cfg0.N, win0_25.index t = ![0, 0] := by decide +kernel
theorem idx26 : ∀ t : Fin cfg0.N, win0_26.index t = ![0, 0] := by decide +kernel
theorem idx27 : ∀ t : Fin cfg0.N, win0_27.index t = ![0, 0] := by decide +kernel
theorem idx28 : ∀ t : Fin cfg0.N, win0_28.index t = ![0, 0] := by decide +kernel
theorem idx29 : ∀ t : Fin cfg0.N, win0_29.index t = ![t.val, 0, 0] := by decide +kernel
theorem idx30 : ∀ t : Fin cfg0.N, win0_30.index t = ![t.val, 0] := by decide +kernel
theorem idx31 : ∀ t : Fin cfg0.N, win0_31.index t = ![t.val / 4, t.val % 4, 0, 0] := by decide +kernel
theorem idx32 : ∀ t : Fin cfg0.N, win0_32.index t = ![t.val, 0, 0] := by decide +kernel
theorem idx33 : ∀ t : Fin cfg0.N, win0_33.index t = ![t.val, 0, 0] := by decide +kernel
theorem idx34 : ∀ t : Fin cfg0.N, win0_34.index t = ![t.val, 0] := by decide +kernel
theorem idx35 : ∀ t : Fin cfg0.N, win0_35.index t = ![t.val, 0] := by decide +kernel
theorem idx36 : ∀ t : Fin cfg0.N, win0_36.index t = ![t.val, 0] := by decide +kernel

variable (c : Dev nD) (t : Fin cfg0.N)

/-- The token that row `i` of a point's block is. -/
theorem row_lt (i : Fin 1024) : t.val * 1024 + i.val < 32768 := by
  have h : t.val < 32 := (N_0 : cfg0.N = 32) ▸ t.isLt
  have := i.isLt
  omega

/-- Token `i` of a point's block. -/
def row (i : Fin 1024) : Fin 32768 := ⟨t.val * 1024 + i.val, row_lt t i⟩

/-! Each window's block, read at an index, is an element of an argument. -/

theorem read0 (i : Fin 1024) (k : Fin 1024) : iblk m c 0 t (ix2 i k) = (argsOf m c).x (ix2 (row t i) k) := by
  delta argsOf row; blk_ext [iblk, V, idx0 t]
theorem V1 (k : Fin 1024) : (V m c main_v8 (ix2 0 k) : EReal) = (argsOf m c).g (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read1 (k : Fin 1024) : iblk m c 1 t (ix2 0 k) = (argsOf m c).g (ix1 k) := by
  rw [← V1]; blk_ext [iblk, idx1 t]
theorem V2 (k : Fin 256) : (V m c main_v9 (ix2 0 k) : EReal) = (argsOf m c).kvg (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read2 (k : Fin 256) : iblk m c 2 t (ix2 0 k) = (argsOf m c).kvg (ix1 k) := by
  rw [← V2]; blk_ext [iblk, idx2 t]
theorem V3 (k : Fin 64) : (V m c main_v10 (ix2 0 k) : EReal) = (argsOf m c).ikg (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read3 (k : Fin 64) : iblk m c 3 t (ix2 0 k) = (argsOf m c).ikg (ix1 k) := by
  rw [← V3]; blk_ext [iblk, idx3 t]
theorem V4 (k : Fin 64) : (V m c main_v11 (ix2 0 k) : EReal) = (argsOf m c).ikb (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read4 (k : Fin 64) : iblk m c 4 t (ix2 0 k) = (argsOf m c).ikb (ix1 k) := by
  rw [← V4]; blk_ext [iblk, idx4 t]
theorem V19 (k : Fin 1536) : (V m c main_v34 (ix2 0 k) : EReal) = (argsOf m c).cb (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read19 (k : Fin 1536) : iblk m c 19 t (ix2 0 k) = (argsOf m c).cb (ix1 k) := by
  rw [← V19]; blk_ext [iblk, idx19 t]
theorem V20 (k : Fin 16) : (V m c main_v35 (ix2 0 k) : EReal) = (argsOf m c).dtb (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read20 (k : Fin 16) : iblk m c 20 t (ix2 0 k) = (argsOf m c).dtb (ix1 k) := by
  rw [← V20]; blk_ext [iblk, idx20 t]
theorem V22 (k : Fin 16) : (V m c main_v37 (ix2 0 k) : EReal) = (argsOf m c).alog (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read22 (k : Fin 16) : iblk m c 22 t (ix2 0 k) = (argsOf m c).alog (ix1 k) := by
  rw [← V22]; blk_ext [iblk, idx22 t]
theorem V25 (k : Fin 1024) : (V m c main_v40 (ix2 0 k) : EReal) = (argsOf m c).nw (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read25 (k : Fin 1024) : iblk m c 25 t (ix2 0 k) = (argsOf m c).nw (ix1 k) := by
  rw [← V25]; blk_ext [iblk, idx25 t]
theorem V24 (k : Fin 1024) : (V m c main_v39 (ix2 0 k) : EReal) = (argsOf m c).d (ix1 ⟨k.val / 64, by omega⟩) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read24 (k : Fin 1024) : iblk m c 24 t (ix2 0 k) = (argsOf m c).d (ix1 ⟨k.val / 64, by omega⟩) := by
  rw [← V24]; blk_ext [iblk, idx24 t]
theorem V21 (k : Fin 16) : (V m c main_v36 (ix2 k 0) : EReal) = (argsOf m c).dtb (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read21 (k : Fin 16) : iblk m c 21 t (ix2 k 0) = (argsOf m c).dtb (ix1 k) := by
  rw [← V21]; blk_ext [iblk, idx21 t]
theorem V23 (k : Fin 16) : (V m c main_v38 (ix2 k 0) : EReal) = (argsOf m c).alog (ix1 k) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read23 (k : Fin 16) : iblk m c 23 t (ix2 k 0) = (argsOf m c).alog (ix1 k) := by
  rw [← V23]; blk_ext [iblk, idx23 t]
theorem V5 (j : Fin 512) (k : Fin 1024) : (V m c main_v12 (ix2 j k) : EReal) = (argsOf m c).wq (ix2 k j) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read5 (j : Fin 512) (k : Fin 1024) : iblk m c 5 t (ix2 j k) = (argsOf m c).wq (ix2 k j) := by
  rw [← V5]; blk_ext [iblk, idx5 t]
theorem V7 (j : Fin 256) (k : Fin 1024) : (V m c main_v13 (ix2 j k) : EReal) = (argsOf m c).wiq (ix2 k j) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read7 (j : Fin 256) (k : Fin 1024) : iblk m c 7 t (ix2 j k) = (argsOf m c).wiq (ix2 k j) := by
  rw [← V7]; blk_ext [iblk, idx7 t]
theorem read6 (k : Fin 1024) (j : Fin 256) : iblk m c 6 t (ix2 k j) = (argsOf m c).wckv (ix2 k j) := by
  delta argsOf; blk_ext [iblk, V, idx6 t]
theorem read8 (k : Fin 1024) (j : Fin 128) : iblk m c 8 t (ix2 k j) = (argsOf m c).wsm (ix2 k j) := by
  delta argsOf; blk_ext [iblk, V, idx8 t]
theorem read10 (k : Fin 1024) (j : Fin 1536) : iblk m c 10 t (ix2 k j) = (argsOf m c).wb (ix2 k j) := by
  delta argsOf; blk_ext [iblk, V, idx10 t]
theorem read11 (k : Fin 1024) (j : Fin 1024) : iblk m c 11 t (ix2 k j) = (argsOf m c).wz (ix2 k j) := by
  delta argsOf; blk_ext [iblk, V, idx11 t]
theorem read12 (k : Fin 1024) (j : Fin 1536) : iblk m c 12 t (ix2 k j) = (argsOf m c).wxbc (ix2 k j) := by
  delta argsOf; blk_ext [iblk, V, idx12 t]
theorem read13 (k : Fin 1024) (j : Fin 128) : iblk m c 13 t (ix2 k j) = (argsOf m c).wdt (ix2 k j) := by
  delta argsOf; blk_ext [iblk, V, idx13 t]
theorem read17 (k : Fin 3) (j : Fin 512) : iblk m c 17 t (ix2 k j) = (argsOf m c).scw (ix2 k j) := by
  delta argsOf; blk_ext [iblk, V, idx17 t]
theorem read18 (k : Fin 4) (j : Fin 1536) : iblk m c 18 t (ix2 k j) = (argsOf m c).cw (ix2 k j) := by
  delta argsOf; blk_ext [iblk, V, idx18 t]
theorem V9 (j : Fin 8) (k : Fin 1024) : (V m c main_v5 (ix2 j k) : EReal) = (argsOf m c).wsm (ix2 k ⟨64 + j.val, by omega⟩) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read9 (j : Fin 8) (k : Fin 1024) : iblk m c 9 t (ix2 j k) = (argsOf m c).wsm (ix2 k ⟨64 + j.val, by omega⟩) := by
  rw [← V9]; blk_ext [iblk, idx9 t]
theorem V14 (j : Fin 16) (k : Fin 1024) : (V m c main_v7 (ix2 j k) : EReal) = (argsOf m c).wdt (ix2 k ⟨j.val, by omega⟩) := by
  delta argsOf; unfold V
  simp only [hostOps0, hostOps0_1, hostOps0_2, hostOps0_3, hostOps0_4, hostOps0_5, hostOps0_6, List.flatten_cons, List.flatten_nil, List.append_nil, List.cons_append, List.nil_append]
  entry_read
  pointwise
theorem read14 (j : Fin 16) (k : Fin 1024) : iblk m c 14 t (ix2 j k) = (argsOf m c).wdt (ix2 k ⟨j.val, by omega⟩) := by
  rw [← V14]; blk_ext [iblk, idx14 t]

end Cert.Mixer.Arr
-- ==== Proof.MixBlock.lean ====
/-
  What one point of the mixer call leaves in its blocks of the projections, read at an index: the projections of the block's tokens.
-/
module

public import proofs.«01_k».proof.Proof.MixTile
public import proofs.«01_k».proof.Proof.MixArgs

@[expose] public section

set_option maxRecDepth 16384

noncomputable section

open Idealize.ShloMosaic Idealize.ShloMosaic.TcCoe Idealize.SL.Sem Cert.Kernel2Ideal Cert.Kernel2Ideal.Gen Cert.Kernel2Ideal.Own Cert.Mixer Cert.Dense
open scoped BigOperators

namespace Cert.Mixer.Arr

variable (m : (ℓ : Loc nD τ sig) → Buf (Elt Ideal) ℓ) (c : Dev nD) (t : Fin cfg0.N)

/-- Token `b` of the point's tile `a`. -/
def sub (a : Fin 4) (b : Fin 256) : Fin 32768 := row t ⟨a.val * 256 + b.val, by omega⟩

/-- The normalised rows of the point's four tiles. -/
structure Hids (A : Args) (h0 h1 h2 h3 : FVec Ideal S256x1024 .bf16) : Prop where
  p0 : ∀ b k, h0 (ix2 b k) = hid A (sub t 0 b) k
  p1 : ∀ b k, h1 (ix2 b k) = hid A (sub t 1 b) k
  p2 : ∀ b k, h2 (ix2 b k) = hid A (sub t 2 b) k
  p3 : ∀ b k, h3 (ix2 b k) = hid A (sub t 3 b) k

theorem rms_sub (x : Vec Ideal S256x1024 .f32) (a : Fin 4) (b : Fin 256) (h : ∀ k, x (ix2 b k) = iblk m c 0 t (ix2 ⟨a.val * 256 + b.val, by omega⟩ k)) (k : Fin 1024) :
    rms (fun k => x (ix2 b k)) (fun k => iblk m c 1 t (ix2 0 k)) k = hid (argsOf m c) (sub t a b) k := by
  have e : (fun k => (x (ix2 b k) : EReal)) = fun k => (argsOf m c).x (ix2 (sub t a b) k) := funext fun k => (h k).trans (read0 m c t _ k)
  have e' : (fun k => (iblk m c 1 t (ix2 0 k) : EReal)) = fun k => (argsOf m c).g (ix1 k) := funext fun k => read1 m c t k
  exact congrArg₂ (fun x g : Fin 1024 → EReal => rms x g k) e e'

theorem hids : Hids t (argsOf m c)
    (k0_pay7 (View.ld (iblk m c 0 t) (Rect.unit ![0, 0] ![256, 1024] inb_S1024x1024_S256x1024_0_0)) (iblk m c 1 t))
    (k0_pay10 (View.ld (iblk m c 0 t) (Rect.unit ![256, 0] ![256, 1024] inb_S1024x1024_S256x1024_256_0)) (k0_pay8 (iblk m c 1 t))
      (k0_pay9 (View.ld (iblk m c 0 t) (Rect.unit ![256, 0] ![256, 1024] inb_S1024x1024_S256x1024_256_0))))
    (k0_pay11 (View.ld (iblk m c 0 t) (Rect.unit ![512, 0] ![256, 1024] inb_S1024x1024_S256x1024_512_0)) (iblk m c 1 t))
    (k0_pay12 (View.ld (iblk m c 0 t) (Rect.unit ![768, 0] ![256, 1024] inb_S1024x1024_S256x1024_768_0)) (iblk m c 1 t)) where
  p0 b k := (Tile.row0 ..).trans (rms_sub m c t _ 0 b (fun k => by pointwise) k)
  p1 b k := (Tile.row1 ..).trans (rms_sub m c t _ 1 b (fun k => by pointwise) k)
  p2 b k := (Tile.row2 ..).trans (rms_sub m c t _ 2 b (fun k => by pointwise) k)
  p3 b k := (Tile.row3 ..).trans (rms_sub m c t _ 3 b (fun k => by pointwise) k)

/-- A tile's piece of a stack of four, at an index of the stack. -/
theorem at_tile {N : ℕ} (f : (⟨3, ![1, N, 256]⟩ : Shape).Idx → EReal) (G : Fin 4 → EReal) {a : Fin 4} {j : Fin N} {b : Fin 256} (k : Fin 4)
    (z : (⟨3, ![1, N, 256]⟩ : Shape).Idx) (ha : a.val = k.val) (h1 : j.val = (z 1).val) (h2 : b.val = (z 2).val) (hf : f (ix3 0 j b) = G k) : f z = G a := by
  obtain ⟨z0, z1, z2, rfl⟩ : ∃ (z0 : Fin 1) (z1 : Fin N) (z2 : Fin 256), z = ix3 z0 z1 z2 := ⟨z 0, z 1, z 2, eq_ix3 z⟩
  obtain rfl : z0 = 0 := Subsingleton.elim _ _
  obtain rfl : j = z1 := Fin.ext h1
  obtain rfl : b = z2 := Fin.ext h2
  obtain rfl : a = k := Fin.ext ha
  exact hf

/-- A tile's piece of an array of 1024 rows, at an index of the array. -/
theorem at_rows {N : ℕ} (f : (⟨2, ![256, N]⟩ : Shape).Idx → EReal) (G : Fin 32768 → Fin N → EReal) {i : Fin 1024} {j : Fin N} (k : Fin 4)
    (z : (⟨2, ![256, N]⟩ : Shape).Idx) (h0 : i.val = k.val * 256 + (z 0).val) (h1 : j.val = (z 1).val) (hf : ∀ b, f (ix2 b j) = G (sub t k b) j) : f z = G (row t i) j := by
  obtain ⟨z0, z1, rfl⟩ : ∃ (z0 : Fin 256) (z1 : Fin N), z = ix2 z0 z1 := ⟨z 0, z 1, eq_ix2 z⟩
  obtain rfl : j = z1 := Fin.ext h1
  have e : row t i = sub t k z0 := congrArg (row t) (Fin.ext h0)
  rw [e]
  exact hf z0

/-- A tile's piece of the values' block, at an index of the block. -/
theorem at_head (f : S1x1x640x256.Idx → EReal) (G : Fin 4 → EReal) {a : Fin 4} {r : Fin 640} {b : Fin 256} (k : Fin 4)
    (z : S1x1x640x256.Idx) (ha : a.val = k.val) (h1 : r.val = (z 2).val) (h2 : b.val = (z 3).val) (hf : f (ix4 0 0 r b) = G k) : f z = G a := by
  obtain ⟨z0, z1, z2, z3, rfl⟩ : ∃ (z0 : Fin 1) (z1 : Fin 1) (z2 : Fin 640) (z3 : Fin 256), z = ix4 z0 z1 z2 z3 := ⟨z 0, z 1, z 2, z 3, eq_ix4 z⟩
  obtain rfl : z0 = 0 := Subsingleton.elim _ _
  obtain rfl : z1 = 0 := Subsingleton.elim _ _
  obtain rfl : r = z2 := Fin.ext h1
  obtain rfl : b = z3 := Fin.ext h2
  obtain rfl : a = k := Fin.ext ha
  exact hf

variable {A : Args} {h0 h1 h2 h3 : FVec Ideal S256x1024 .bf16} (H : Hids t A h0 h1 h2 h3)

include H

/-- The queries' block. -/
theorem q_canon {w : Vec Ideal S512x1024 .bf16} (hw : ∀ j k, w (ix2 j k) = A.wq (ix2 k j)) (a : Fin 4) (j : Fin 512) (b : Fin 256) :
    View.canon (Val := Elt Ideal) (e := .bf16) [⟨Rect.unit ![3, 0, 0] ![1, 512, 256] inb_S4x512x256_S1x512x256_3_0_0, k0_pay645 h3 w⟩,
      ⟨Rect.unit ![2, 0, 0] ![1, 512, 256] inb_S4x512x256_S1x512x256_2_0_0, k0_pay620 h2 w⟩,
      ⟨Rect.unit ![1, 0, 0] ![1, 512, 256] inb_S4x512x256_S1x512x256_1_0_0, k0_pay593 h1 w⟩,
      ⟨Rect.unit ![0, 0, 0] ![1, 512, 256] inb_S4x512x256_S1x512x256_0_0_0, k0_pay556 h0 w⟩] (ix3 a j b) = proj A (sub t a b) A.wq j := by
  canon_tiles z hz
  case piece0 => exact at_tile _ (fun a => proj A (sub t a b) A.wq j) 3 z (hz0.trans (show 3 + (z 0).val = 3 by omega)) hz1 hz2 (Tile.q3 (H.p3 b) j (hw j))
  case piece1 => exact at_tile _ (fun a => proj A (sub t a b) A.wq j) 2 z (hz0.trans (show 2 + (z 0).val = 2 by omega)) hz1 hz2 (Tile.q2 (H.p2 b) j (hw j))
  case piece2 => exact at_tile _ (fun a => proj A (sub t a b) A.wq j) 1 z (hz0.trans (show 1 + (z 0).val = 1 by omega)) hz1 hz2 (Tile.q1 (H.p1 b) j (hw j))
  case piece3 => exact at_tile _ (fun a => proj A (sub t a b) A.wq j) 0 z (hz0.trans (show (z 0).val = 0 by omega)) hz1 hz2 (Tile.q0 (H.p0 b) j (hw j))

/-- The index heads' queries' block. -/
theorem iq_canon {w : Vec Ideal S256x1024 .bf16} (hw : ∀ j k, w (ix2 j k) = A.wiq (ix2 k j)) (a : Fin 4) (j : Fin 256) (b : Fin 256) :
    View.canon (Val := Elt Ideal) (e := .bf16) [⟨Rect.unit ![3, 0, 0] ![1, 256, 256] inb_S4x256x256_S1x256x256_3_0_0, k0_pay646 h3 w⟩,
      ⟨Rect.unit ![2, 0, 0] ![1, 256, 256] inb_S4x256x256_S1x256x256_2_0_0, k0_pay621 h2 w⟩,
      ⟨Rect.unit ![1, 0, 0] ![1, 256, 256] inb_S4x256x256_S1x256x256_1_0_0, k0_pay595 (k0_pay594 h1 w)⟩,
      ⟨Rect.unit ![0, 0, 0] ![1, 256, 256] inb_S4x256x256_S1x256x256_0_0_0, k0_pay557 h0 w⟩] (ix3 a j b) = iq A (sub t a b) j := by
  canon_tiles z hz
  case piece0 => exact at_tile _ (fun a => iq A (sub t a b) j) 3 z (hz0.trans (show 3 + (z 0).val = 3 by omega)) hz1 hz2 (Tile.iq3 (H.p3 b) j (hw j))
  case piece1 => exact at_tile _ (fun a => iq A (sub t a b) j) 2 z (hz0.trans (show 2 + (z 0).val = 2 by omega)) hz1 hz2 (Tile.iq2 (H.p2 b) j (hw j))
  case piece2 => exact at_tile _ (fun a => iq A (sub t a b) j) 1 z (hz0.trans (show 1 + (z 0).val = 1 by omega)) hz1 hz2 (Tile.iq1 (H.p1 b) j (hw j))
  case piece3 => exact at_tile _ (fun a => iq A (sub t a b) j) 0 z (hz0.trans (show (z 0).val = 0 by omega)) hz1 hz2 (Tile.iq0 (H.p0 b) j (hw j))

/-- The index heads' weights' block. -/
theorem iw_canon {w : Vec Ideal S8x1024 .bf16} (hw : ∀ (j : Fin 8) (k : Fin 1024), w (ix2 j k) = A.wsm (ix2 k ⟨64 + j.val, by omega⟩)) (a : Fin 4) (j : Fin 8) (b : Fin 256) :
    View.canon (Val := Elt Ideal) (e := .f32) [⟨Rect.unit ![3, 0, 0] ![1, 8, 256] inb_S4x8x256_S1x8x256_3_0_0, k0_pay647 h3 w⟩,
      ⟨Rect.unit ![2, 0, 0] ![1, 8, 256] inb_S4x8x256_S1x8x256_2_0_0, k0_pay622 h2 w⟩,
      ⟨Rect.unit ![1, 0, 0] ![1, 8, 256] inb_S4x8x256_S1x8x256_1_0_0, k0_pay596 h1 w⟩,
      ⟨Rect.unit ![0, 0, 0] ![1, 8, 256] inb_S4x8x256_S1x8x256_0_0_0, k0_pay559 (k0_pay558 h0 w)⟩] (ix3 a j b) = iw A (sub t a b) j := by
  canon_tiles z hz
  case piece0 => exact at_tile _ (fun a => iw A (sub t a b) j) 3 z (hz0.trans (show 3 + (z 0).val = 3 by omega)) hz1 hz2 (Tile.iw3 (H.p3 b) j (hw j))
  case piece1 => exact at_tile _ (fun a => iw A (sub t a b) j) 2 z (hz0.trans (show 2 + (z 0).val = 2 by omega)) hz1 hz2 (Tile.iw2 (H.p2 b) j (hw j))
  case piece2 => exact at_tile _ (fun a => iw A (sub t a b) j) 1 z (hz0.trans (show 1 + (z 0).val = 1 by omega)) hz1 hz2 (Tile.iw1 (H.p1 b) j (hw j))
  case piece3 => exact at_tile _ (fun a => iw A (sub t a b) j) 0 z (hz0.trans (show (z 0).val = 0 by omega)) hz1 hz2 (Tile.iw0 (H.p0 b) j (hw j))

/-- The compressed keys' and values' block. -/
theorem ckv_canon {w : Vec Ideal S1024x256 .bf16} {g : Vec Ideal S1x256 .f32} (hw : ∀ k j, w (ix2 k j) = A.wckv (ix2 k j)) (hg : ∀ j, g (ix2 0 j) = A.kvg (ix1 j)) (i : Fin 1024) (j : Fin 256) :
    View.canon (Val := Elt Ideal) (e := .bf16) [⟨Rect.unit ![768, 0] ![256, 256] inb_S1024x256_S256x256_768_0, k0_pay637 (k0_pay635 h3 w) (k0_pay636 g)⟩,
      ⟨Rect.unit ![512, 0] ![256, 256] inb_S1024x256_S256x256_512_0, k0_pay610 h2 w g⟩,
      ⟨Rect.unit ![256, 0] ![256, 256] inb_S1024x256_S256x256_256_0, k0_pay577 h1 w g⟩,
      ⟨Rect.unit ![0, 0] ![256, 256] inb_S1024x256_S256x256_0_0, k0_pay548 h0 w g⟩] (ix2 i j) = ckv A (row t i) j := by
  canon_tiles z hz
  case piece0 => exact at_rows t _ (ckv A) 3 z hz0 hz1 fun b => Tile.ckv3 (H.p3 b) hw hg j
  case piece1 => exact at_rows t _ (ckv A) 2 z hz0 hz1 fun b => Tile.ckv2 (H.p2 b) hw hg j
  case piece2 => exact at_rows t _ (ckv A) 1 z hz0 hz1 fun b => Tile.ckv1 (H.p1 b) hw hg j
  case piece3 => exact at_rows t _ (ckv A) 0 z (hz0.trans (show (z 0).val = 0 * 256 + (z 0).val by omega)) hz1 fun b => Tile.ckv0 (H.p0 b) hw hg j

/-- The index keys' block. -/
theorem ik_canon {w : Vec Ideal S1024x128 .bf16} {g a : Vec Ideal S1x64 .f32} (hw : ∀ k j, w (ix2 k j) = A.wsm (ix2 k j))
    (hg : ∀ j, g (ix2 0 j) = A.ikg (ix1 j)) (ha : ∀ j, a (ix2 0 j) = A.ikb (ix1 j)) (i : Fin 1024) (j : Fin 64) :
    View.canon (Val := Elt Ideal) (e := .bf16) [⟨Rect.unit ![768, 0] ![256, 64] inb_S1024x64_S256x64_768_0, k0_pay638 h3 w g a⟩,
      ⟨Rect.unit ![512, 0] ![256, 64] inb_S1024x64_S256x64_512_0, k0_pay614 (k0_pay611 h2 w) (k0_pay612 h2 w) (k0_pay613 h2 w) g a⟩,
      ⟨Rect.unit ![256, 0] ![256, 64] inb_S1024x64_S256x64_256_0, k0_pay578 h1 w g a⟩,
      ⟨Rect.unit ![0, 0] ![256, 64] inb_S1024x64_S256x64_0_0, k0_pay552 (k0_pay549 h0 w) (k0_pay550 h0 w) (k0_pay551 h0 w) g a⟩] (ix2 i j) = ik A (row t i) j := by
  canon_tiles z hz
  case piece0 => exact at_rows t _ (ik A) 3 z hz0 hz1 fun b => Tile.ik3 (H.p3 b) hw hg ha j
  case piece1 => exact at_rows t _ (ik A) 2 z hz0 hz1 fun b => Tile.ik2 (H.p2 b) hw hg ha j
  case piece2 => exact at_rows t _ (ik A) 1 z hz0 hz1 fun b => Tile.ik1 (H.p1 b) hw hg ha j
  case piece3 => exact at_rows t _ (ik A) 0 z (hz0.trans (show (z 0).val = 0 * 256 + (z 0).val by omega)) hz1 fun b => Tile.ik0 (H.p0 b) hw hg ha j

/-- The values' block. -/
theorem v_canon {w : Vec Ideal S1024x256 .bf16} {g : Vec Ideal S1x256 .f32} {v : Vec Ideal S640x256 .bf16} {o : Vec Ideal S640x1 .f32}
    (hw : ∀ k j, w (ix2 k j) = A.wckv (ix2 k j)) (hg : ∀ j, g (ix2 0 j) = A.kvg (ix1 j))
    (hv : ∀ (r : Fin 640) (k : Fin 256), v (ix2 r k) = if h : r.val % 80 < 64 then A.wuv (ix3 k ⟨r.val / 80, by omega⟩ ⟨r.val % 80, h⟩) else (0 : EReal))
    (ho : ∀ r : Fin 640, o (ix2 r 0) = if r.val % 80 = 64 then (1 : EReal) else (0 : EReal)) (a : Fin 4) (r : Fin 640) (b : Fin 256) :
    View.canon (Val := Elt Ideal) (e := .bf16) [⟨Rect.unit ![0, 3, 0, 0] ![1, 1, 640, 256] inb_S1x4x640x256_S1x1x640x256_0_3_0_0, k0_pay659 (k0_pay658 (k0_pay637 (k0_pay635 h3 w) (k0_pay636 g)) v o)⟩,
      ⟨Rect.unit ![0, 2, 0, 0] ![1, 1, 640, 256] inb_S1x4x640x256_S1x1x640x256_0_2_0_0, k0_pay628 (k0_pay610 h2 w g) (k0_pay627 v) (constant S640x256 .f32 0#32) o⟩,
      ⟨Rect.unit ![0, 1, 0, 0] ![1, 1, 640, 256] inb_S1x4x640x256_S1x1x640x256_0_1_0_0, k0_pay603 (k0_pay577 h1 w g) v o⟩,
      ⟨Rect.unit ![0, 0, 0, 0] ![1, 1, 640, 256] inb_S1x4x640x256_S1x1x640x256_0_0_0_0, k0_pay567 (k0_pay566 (k0_pay548 h0 w g) v o)⟩] (ix4 0 a r b) = val A (sub t a b) r := by
  canon_tiles z hz
  case piece0 => exact at_head _ (fun a => val A (sub t a b) r) 3 z (hz1.trans (show 3 + (z 1).val = 3 by omega)) hz2 hz3 (Tile.v3 (Tile.ckv3 (H.p3 b) hw hg) r (hv r) (ho r))
  case piece1 => exact at_head _ (fun a => val A (sub t a b) r) 2 z (hz1.trans (show 2 + (z 1).val = 2 by omega)) hz2 hz3 (Tile.v2 (Tile.ckv2 (H.p2 b) hw hg) r (hv r) (ho r))
  case piece2 => exact at_head _ (fun a => val A (sub t a b) r) 1 z (hz1.trans (show 1 + (z 1).val = 1 by omega)) hz2 hz3 (Tile.v1 (Tile.ckv1 (H.p1 b) hw hg) r (hv r) (ho r))
  case piece3 => exact at_head _ (fun a => val A (sub t a b) r) 0 z (hz1.trans (show (z 1).val = 0 by omega)) hz2 hz3 (Tile.v0 (Tile.ckv0 (H.p0 b) hw hg) r (hv r) (ho r))

end Cert.Mixer.Arr
-- ==== Proof.MixVal.lean ====
/-
  The weights of the values by heads and the column of ones, as the mixer call's windows' blocks hold them.
-/
module

public import proofs.«01_k».proof.Proof.MixArgs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Cert.Kernel2Ideal Cert.Kernel2Ideal.Gen Cert.Mixer
open Idealize.ShloMosaic.Pipeline (Dat)
open scoped BigOperators

namespace Cert.Mixer.Arr

variable (m : (ℓ : Loc nD τ sig) → Buf (Elt Ideal) ℓ)

variable (c : Dev nD) (t : Fin cfg0.N)

theorem V15 (r : Fin 640) (k : Fin 256) : (V m c main_v3 (ix2 r k) : EReal)
    = if h : r.val % 80 < 64 then (argsOf m c).wuv (ix3 k ⟨r.val / 80, by omega⟩ ⟨r.val % 80, h⟩) else (0 : EReal) := by
  unfold V
  simp only [hostOps0, hostOps0_1, hostOps0_2, hostOps0_3, hostOps0_4, hostOps0_5, hostOps0_6, List.flatten_cons, List.flatten_nil, List.append_nil, List.cons_append, List.nil_append]
  entry_read
  simp only [StableHlo.TRef.ofBuf_toBuf]
  pointwise
  show pad S8x80x256 ![0, 0, 0] ![0, 16, 0] ![0, 0, 0] (truncf (F := Ideal) .bf16 (transpose S8x64x256 [1, 2, 0] (argsOf m c).wuv transposes_S256x8x64_S8x64x256_1_2_0) bitsLt_bf16_f32)
    (sitofp (F := Ideal) .bf16 (constantI S_ 32 0#32)) pads_S8x64x256_S8x80x256_000_0160_000 h_S_ (ix3 ⟨r.val / 80, by omega⟩ ⟨r.val % 80, by omega⟩ k) = _
  generalize (argsOf m c).wuv = w
  pointwise
  by_cases h : r.val % 80 < 64
  · rw [dif_pos h, dif_pos ⟨by omega, h⟩]
  · rw [dif_neg h, dif_neg (fun q => h q.2)]
    show (((0#32 : BitVec 32).toInt : ℝ) : EReal) = 0
    simp
theorem read15 (r : Fin 640) (k : Fin 256) : iblk m c 15 t (ix2 r k)
    = if h : r.val % 80 < 64 then (argsOf m c).wuv (ix3 k ⟨r.val / 80, by omega⟩ ⟨r.val % 80, h⟩) else (0 : EReal) := by
  rw [← V15]; blk_ext [iblk, idx15 t]

theorem lit0_eq : ∀ r : Fin 640, lit0 r = if r.val % 80 = 64 then 0x3F800000#32 else 0#32 := by decide +kernel

theorem V16 (r : Fin 640) : (V m c main_cst (ix2 r 0) : EReal) = if r.val % 80 = 64 then (1 : EReal) else (0 : EReal) := by
  unfold V
  simp only [hostOps0, hostOps0_1, hostOps0_2, hostOps0_3, hostOps0_4, hostOps0_5, hostOps0_6, List.flatten_cons, List.flatten_nil, List.append_nil, List.cons_append, List.nil_append]
  entry_read
  have e : S640x1.rowMajor (ix2 r 0) = r := by
    refine Fin.ext ?_
    show r.val * 1 + 0 = r.val
    omega
  show Ideal.ofBits .f32 (lit0 (S640x1.rowMajor (ix2 r 0))) = _
  refine (congrArg (fun q : Fin 640 => Ideal.ofBits .f32 (lit0 q)) e).trans ?_

  rw [lit0_eq]
  split
  · exact Ideal.ofBits_one_f32
  · exact Ideal.ofBits_zero_f32
theorem read16 (r : Fin 640) : iblk m c 16 t (ix2 r 0) = if r.val % 80 = 64 then (1 : EReal) else (0 : EReal) := by
  rw [← V16]; blk_ext [iblk, idx16 t]

end Cert.Mixer.Arr
-- ==== Proof.MixOut.lean ====
/-
  What the mixer call leaves in its result arrays of the projections: the projections of every token.
-/
module

public import proofs.«01_k».proof.Proof.MixBlock
public import proofs.«01_k».proof.Proof.MixVal

@[expose] public section

set_option maxRecDepth 16384

noncomputable section

open Idealize.ShloMosaic Idealize.ShloMosaic.TcCoe Idealize.SL.Sem Cert.Kernel2Ideal Cert.Kernel2Ideal.Gen Cert.Kernel2Ideal.Own Cert.Mixer
open Idealize.ShloMosaic.Pipeline (Dat)
open scoped BigOperators

namespace Cert.Mixer.Arr

variable (m : (ℓ : Loc nD τ sig) → Buf (Elt Ideal) ℓ) (c : Dev nD) (t : Fin cfg0.N)

/-! ## The blocks a point leaves, in both cases of the body -/

theorem q_at (a : Fin 4) (j : Fin 512) (b : Fin 256) : (outsAt m c t.val t.isLt).1 (ix3 a j b) = proj (argsOf m c) (sub t a b) (argsOf m c).wq j := by
  by_cases h0 : t.val % 4 = 0
  · rw [outsAt_A m c t h0]
    unfold outsA
    dsimp only
    unfold runA bodyRunA
    frame_out
    exact q_canon t (hids m c t) (read5 m c t) a j b
  · rw [outsAt_B m c t h0]
    unfold outsB
    dsimp only
    unfold runB bodyRunB
    frame_out
    exact q_canon t (hids m c t) (read5 m c t) a j b

theorem ckv_at (i : Fin 1024) (j : Fin 256) : (outsAt m c t.val t.isLt).2.1 (ix2 i j) = ckv (argsOf m c) (row t i) j := by
  by_cases h0 : t.val % 4 = 0
  · rw [outsAt_A m c t h0]
    unfold outsA
    dsimp only
    unfold runA bodyRunA
    frame_out
    exact ckv_canon t (hids m c t) (read6 m c t) (read2 m c t) i j
  · rw [outsAt_B m c t h0]
    unfold outsB
    dsimp only
    unfold runB bodyRunB
    frame_out
    exact ckv_canon t (hids m c t) (read6 m c t) (read2 m c t) i j

theorem v_at (a : Fin 4) (r : Fin 640) (b : Fin 256) : (outsAt m c t.val t.isLt).2.2.1 (ix4 0 a r b) = val (argsOf m c) (sub t a b) r := by
  by_cases h0 : t.val % 4 = 0
  · rw [outsAt_A m c t h0]
    unfold outsA
    dsimp only
    unfold runA bodyRunA
    frame_out
    exact v_canon t (hids m c t) (read6 m c t) (read2 m c t) (read15 m c t) (read16 m c t) a r b
  · rw [outsAt_B m c t h0]
    unfold outsB
    dsimp only
    unfold runB bodyRunB
    frame_out
    exact v_canon t (hids m c t) (read6 m c t) (read2 m c t) (read15 m c t) (read16 m c t) a r b

theorem iq_at (a : Fin 4) (j : Fin 256) (b : Fin 256) : (outsAt m c t.val t.isLt).2.2.2.1 (ix3 a j b) = iq (argsOf m c) (sub t a b) j := by
  by_cases h0 : t.val % 4 = 0
  · rw [outsAt_A m c t h0]
    unfold outsA
    dsimp only
    unfold runA bodyRunA
    frame_out
    exact iq_canon t (hids m c t) (read7 m c t) a j b
  · rw [outsAt_B m c t h0]
    unfold outsB
    dsimp only
    unfold runB bodyRunB
    frame_out
    exact iq_canon t (hids m c t) (read7 m c t) a j b

theorem iw_at (a : Fin 4) (j : Fin 8) (b : Fin 256) : (outsAt m c t.val t.isLt).2.2.2.2.1 (ix3 a j b) = iw (argsOf m c) (sub t a b) j := by
  by_cases h0 : t.val % 4 = 0
  · rw [outsAt_A m c t h0]
    unfold outsA
    dsimp only
    unfold runA bodyRunA
    frame_out
    exact iw_canon t (hids m c t) (read9 m c t) a j b
  · rw [outsAt_B m c t h0]
    unfold outsB
    dsimp only
    unfold runB bodyRunB
    frame_out
    exact iw_canon t (hids m c t) (read9 m c t) a j b

theorem ik_at (i : Fin 1024) (j : Fin 64) : (outsAt m c t.val t.isLt).2.2.2.2.2.1 (ix2 i j) = ik (argsOf m c) (row t i) j := by
  by_cases h0 : t.val % 4 = 0
  · rw [outsAt_A m c t h0]
    unfold outsA
    dsimp only
    unfold runA bodyRunA
    frame_out
    exact ik_canon t (hids m c t) (read8 m c t) (read3 m c t) (read4 m c t) i j
  · rw [outsAt_B m c t h0]
    unfold outsB
    dsimp only
    unfold runB bodyRunB
    frame_out
    exact ik_canon t (hids m c t) (read8 m c t) (read3 m c t) (read4 m c t) i j

/-! ## The result arrays -/

theorem tile_lt (t : Fin cfg0.N) (a : Fin 4) : t.val * 4 + a.val < 128 := by
  have h : t.val < 32 := t.isLt
  omega
theorem seq_lt (t : Fin cfg0.N) : t.val / 4 < 8 := by
  have h : t.val < 32 := t.isLt
  omega
theorem part_lt (t : Fin cfg0.N) (a : Fin 4) : t.val % 4 * 4 + a.val < 16 := by omega

theorem arr29 : (dats m 0 c).arrAt 29 cfg0.N = outQ (argsOf m c) := by
  refine (dats m 0 c).arrAt_eq_of_covers 29 _ (by decide +kernel) fun t hf y => ?_
  blk_simp
  rw [after0_29]
  obtain ⟨a, j, b, rfl⟩ : ∃ (a : Fin 4) (j : Fin 512) (b : Fin 256), y = ix3 a j b := ⟨y 0, y 1, y 2, eq_ix3 y⟩
  have e : (win0_29.blk t).view.emb (ix3 a j b) = ix3 ⟨t.val * 4 + a.val, tile_lt t a⟩ j b := by blk_ext [idx29 t]
  rw [e]
  exact (q_at m c t a j b).trans (congrArg (proj (argsOf m c) · (argsOf m c).wq j) (Fin.ext (show t.val * 1024 + (a.val * 256 + b.val) = (t.val * 4 + a.val) * 256 + b.val by omega)))

theorem arr30 : (dats m 0 c).arrAt 30 cfg0.N = outCkv (argsOf m c) := by
  refine (dats m 0 c).arrAt_eq_of_covers 30 _ (by decide +kernel) fun t hf y => ?_
  blk_simp
  rw [after0_30]
  obtain ⟨i, j, rfl⟩ : ∃ (i : Fin 1024) (j : Fin 256), y = ix2 i j := ⟨y 0, y 1, eq_ix2 y⟩
  have e : (win0_30.blk t).view.emb (ix2 i j) = ix2 (row t i) j := by blk_ext [idx30 t]; rfl
  rw [e]
  exact ckv_at m c t i j

theorem arr31 : (dats m 0 c).arrAt 31 cfg0.N = outV (argsOf m c) := by
  refine (dats m 0 c).arrAt_eq_of_covers 31 _ (by decide +kernel) fun t hf y => ?_
  blk_simp
  rw [after0_31]
  obtain ⟨z, a, r, b, rfl⟩ : ∃ (z : Fin 1) (a : Fin 4) (r : Fin 640) (b : Fin 256), y = ix4 z a r b := ⟨y 0, y 1, y 2, y 3, eq_ix4 y⟩
  obtain rfl : z = 0 := Subsingleton.elim _ _
  have e : (win0_31.blk t).view.emb (ix4 0 a r b) = ix4 ⟨t.val / 4, seq_lt t⟩ ⟨t.val % 4 * 4 + a.val, part_lt t a⟩ r b := by blk_ext [idx31 t]
  rw [e]
  exact (v_at m c t a r b).trans (congrArg (val (argsOf m c) · r) (Fin.ext (show t.val * 1024 + (a.val * 256 + b.val) = t.val / 4 * 4096 + (t.val % 4 * 4 + a.val) * 256 + b.val by omega)))

theorem arr32 : (dats m 0 c).arrAt 32 cfg0.N = outIq (argsOf m c) := by
  refine (dats m 0 c).arrAt_eq_of_covers 32 _ (by decide +kernel) fun t hf y => ?_
  blk_simp
  rw [after0_32]
  obtain ⟨a, j, b, rfl⟩ : ∃ (a : Fin 4) (j : Fin 256) (b : Fin 256), y = ix3 a j b := ⟨y 0, y 1, y 2, eq_ix3 y⟩
  have e : (win0_32.blk t).view.emb (ix3 a j b) = ix3 ⟨t.val * 4 + a.val, tile_lt t a⟩ j b := by blk_ext [idx32 t]
  rw [e]
  exact (iq_at m c t a j b).trans (congrArg (iq (argsOf m c) · j) (Fin.ext (show t.val * 1024 + (a.val * 256 + b.val) = (t.val * 4 + a.val) * 256 + b.val by omega)))

theorem arr33 : (dats m 0 c).arrAt 33 cfg0.N = outIw (argsOf m c) := by
  refine (dats m 0 c).arrAt_eq_of_covers 33 _ (by decide +kernel) fun t hf y => ?_
  blk_simp
  rw [after0_33]
  obtain ⟨a, j, b, rfl⟩ : ∃ (a : Fin 4) (j : Fin 8) (b : Fin 256), y = ix3 a j b := ⟨y 0, y 1, y 2, eq_ix3 y⟩
  have e : (win0_33.blk t).view.emb (ix3 a j b) = ix3 ⟨t.val * 4 + a.val, tile_lt t a⟩ j b := by blk_ext [idx33 t]
  rw [e]
  exact (iw_at m c t a j b).trans (congrArg (iw (argsOf m c) · j) (Fin.ext (show t.val * 1024 + (a.val * 256 + b.val) = (t.val * 4 + a.val) * 256 + b.val by omega)))

theorem arr34 : (dats m 0 c).arrAt 34 cfg0.N = outIk (argsOf m c) := by
  refine (dats m 0 c).arrAt_eq_of_covers 34 _ (by decide +kernel) fun t hf y => ?_
  blk_simp
  rw [after0_34]
  obtain ⟨i, j, rfl⟩ : ∃ (i : Fin 1024) (j : Fin 64), y = ix2 i j := ⟨y 0, y 1, eq_ix2 y⟩
  have e : (win0_34.blk t).view.emb (ix2 i j) = ix2 (row t i) j := by blk_ext [idx34 t]; rfl
  rw [e]
  exact ik_at m c t i j

end Cert.Mixer.Arr
-- ==== Proof.MixerRef.lean ====
/-
  The reference read at an index: its results are the functions of `MixerSpec` of its arguments.
-/
module

public import proofs.«01_k».proof.Proof.MixerSpec
public import proofs.«01_k».proof.Proof.Gen.Reference2Ideal.Run
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem Cert.Reference2Ideal Cert.Reference2Ideal.Gen Cert.Reference2Ideal.Value
open scoped BigOperators

namespace Cert.Mixer.Ref

variable {F : FTy → Type} [FloatOps F]

/-- Every token's row normalised. -/
def normed (m : (ℓ : Loc nD τ sig) → Buf (Elt F) ℓ) (c : Dev nD) : (⟨S32768x1024, .f32⟩ : BufTy).Contents (Elt F) :=
  mulf (mulf (m ((c.tc : Thread nD τ).loc main_arg0)) (broadcastInDim S32768x1024 ![0, 1] bcast_S32768x1_S32768x1024_0_1 (Host.rsqrt (addf (Host.divf (broadcastInDim S32768x1 ![0] bcast_S32768_S32768x1_0 (Host.reduceAdd (mulf (m ((c.tc : Thread nD τ).loc main_arg0)) (m ((c.tc : Thread nD τ).loc main_arg0))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (m ((c.tc : Thread nD τ).loc main_arg1))))

/-- The compressed keys and values before their normalisation. -/
def keyProj (m : (ℓ : Loc nD τ sig) → Buf (Elt F) ℓ) (c : Dev nD) : (⟨S32768x256, .f32⟩ : BufTy).Contents (Elt F) :=
  Host.dotGeneral dot_S32768x1024_S1024x256_S32768x256_1_0_0_1_n_n none (normed m c) (extf .f32 (m ((c.tc : Thread nD τ).loc main_arg6)) bitsLt_bf16_f32)

/-- The product with the matrix that holds the index keys and weights. -/
def smallProj (m : (ℓ : Loc nD τ sig) → Buf (Elt F) ℓ) (c : Dev nD) : (⟨S32768x128, .f32⟩ : BufTy).Contents (Elt F) :=
  Host.dotGeneral dot_S32768x1024_S1024x128_S32768x128_1_0_0_1_n_n none (normed m c) (extf .f32 (m ((c.tc : Thread nD τ).loc main_arg8)) bitsLt_bf16_f32)

/-- The compressed keys and values, normalised. -/
def keyRows (m : (ℓ : Loc nD τ sig) → Buf (Elt F) ℓ) (c : Dev nD) : (⟨S32768x256, .f32⟩ : BufTy).Contents (Elt F) :=
  mulf (mulf (keyProj m c) (broadcastInDim S32768x256 ![0, 1] bcast_S32768x1_S32768x256_0_1 (Host.rsqrt (addf (Host.divf (broadcastInDim S32768x1 ![0] bcast_S32768_S32768x1_0 (Host.reduceAdd (mulf (keyProj m c) (keyProj m c)) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 (broadcastInDim S1x256 ![1] bcast_S256_S1x256_1 (m ((c.tc : Thread nD τ).loc main_arg2))))

/-- The index keys before their normalisation. -/
def ikRows (m : (ℓ : Loc nD τ sig) → Buf (Elt F) ℓ) (c : Dev nD) : (⟨S32768x64, .f32⟩ : BufTy).Contents (Elt F) :=
  extractStridedSlice S32768x64 ![0, 0] (smallProj m c) slices_S32768x128_S32768x64_0_0

/-- Their means. -/
def ikMeans (m : (ℓ : Loc nD τ sig) → Buf (Elt F) ℓ) (c : Dev nD) : (⟨S32768x1, .f32⟩ : BufTy).Contents (Elt F) :=
  Host.divf (broadcastInDim S32768x1 ![0] bcast_S32768_S32768x1_0 (Host.reduceAdd (ikRows m c) (constant S_ .f32 0x00000000#32) reducesTo_S32768x64_S32768_d1 h_S_)) (broadcastInDim S32768x1 ![] bcast_S_S32768x1 (constant S_ .f32 0x42800000#32))

/-- The index keys less their means. -/
def ikCentred (m : (ℓ : Loc nD τ sig) → Buf (Elt F) ℓ) (c : Dev nD) : (⟨S32768x64, .f32⟩ : BufTy).Contents (Elt F) :=
  subf (ikRows m c) (broadcastInDim S32768x64 ![0, 1] bcast_S32768x1_S32768x64_0_1 (ikMeans m c))

/-- The result array of the queries. -/
def resQ (m : (ℓ : Loc nD τ sig) → Buf (Elt F) ℓ) (c : Dev nD) : (⟨S128x512x256, .bf16⟩ : BufTy).Contents (Elt F) :=
  truncf .bf16 (transpose S128x512x256 [0, 2, 1] (shapeCast _ (Host.dotGeneral dot_S32768x1024_S1024x512_S32768x512_1_0_0_1_n_n none (normed m c) (extf .f32 (m ((c.tc : Thread nD τ).loc main_arg5)) bitsLt_bf16_f32)) shapeCasts_S32768x512_S128x256x512) transposes_S128x256x512_S128x512x256_0_2_1) bitsLt_bf16_f32

/-- The result array of the compressed keys and values. -/
def resCkv (m : (ℓ : Loc nD τ sig) → Buf (Elt F) ℓ) (c : Dev nD) : (⟨S32768x256, .bf16⟩ : BufTy).Contents (Elt F) :=
  truncf .bf16 (keyRows m c) bitsLt_bf16_f32

/-- The result array of the values by heads. -/
def resV (m : (ℓ : Loc nD τ sig) → Buf (Elt F) ℓ) (c : Dev nD) : (⟨S8x16x640x256, .bf16⟩ : BufTy).Contents (Elt F) :=
  shapeCast _ (truncf .bf16 (transpose S128x640x256 [0, 2, 1] (shapeCast _ ((concatenate S32768x8x80 2 [⟨S32768x8x64, ((Host.dotGeneral dot_S32768x256_S256x8x64_S32768x8x64_1_0_0_12_n_n none (keyRows m c) (m ((c.tc : Thread nD τ).loc main_arg13))) : (⟨S32768x8x64, .f32⟩ : BufTy).Contents (Elt F))⟩, ⟨S32768x8x1, ((broadcastInDim S32768x8x1 ![] bcast_S_S32768x8x1 (constant S_ .f32 0x3F800000#32)) : (⟨S32768x8x1, .f32⟩ : BufTy).Contents (Elt F))⟩, ⟨S32768x8x15, ((broadcastInDim S32768x8x15 ![] bcast_S_S32768x8x15 (constant S_ .f32 0x00000000#32)) : (⟨S32768x8x15, .f32⟩ : BufTy).Contents (Elt F))⟩] concatenates_S32768x8x64_S32768x8x1_S32768x8x15_S32768x8x80_d2 : (⟨S32768x8x80, .f32⟩ : BufTy).Contents (Elt F))) shapeCasts_S32768x8x80_S128x256x640) transposes_S128x256x640_S128x640x256_0_2_1) bitsLt_bf16_f32) shapeCasts_S128x640x256_S8x16x640x256

/-- The result array of the queries of the index heads. -/
def resIq (m : (ℓ : Loc nD τ sig) → Buf (Elt F) ℓ) (c : Dev nD) : (⟨S128x256x256, .bf16⟩ : BufTy).Contents (Elt F) :=
  truncf .bf16 (transpose S128x256x256 [0, 2, 1] (shapeCast _ (mulf (Host.dotGeneral dot_S32768x1024_S1024x256_S32768x256_1_0_0_1_n_n none (normed m c) (extf .f32 (m ((c.tc : Thread nD τ).loc main_arg7)) bitsLt_bf16_f32)) (broadcastInDim S32768x256 ![] bcast_S_S32768x256 (constant S_ .f32 0x3E000000#32))) shapeCasts_S32768x256_S128x256x256) transposes_S128x256x256_S128x256x256_0_2_1) bitsLt_bf16_f32

/-- The result array of the weights of the index heads. -/
def resIw (m : (ℓ : Loc nD τ sig) → Buf (Elt F) ℓ) (c : Dev nD) : (⟨S128x8x256, .f32⟩ : BufTy).Contents (Elt F) :=
  transpose S128x8x256 [0, 2, 1] (shapeCast _ (mulf (extractStridedSlice S32768x8 ![0, 64] (smallProj m c) slices_S32768x128_S32768x8_0_64) (broadcastInDim S32768x8 ![] bcast_S_S32768x8 (constant S_ .f32 0x3F000000#32))) shapeCasts_S32768x8_S128x256x8) transposes_S128x256x8_S128x8x256_0_2_1

/-- The result array of the index keys. -/
def resIk (m : (ℓ : Loc nD τ sig) → Buf (Elt F) ℓ) (c : Dev nD) : (⟨S32768x64, .bf16⟩ : BufTy).Contents (Elt F) :=
  truncf .bf16 (addf (mulf (mulf (subf (ikRows m c) (broadcastInDim S32768x64 ![0, 1] bcast_S32768x1_S32768x64_0_1 (ikMeans m c))) (broadcastInDim S32768x64 ![0, 1] bcast_S32768x1_S32768x64_0_1 (Host.rsqrt (addf (Host.divf (broadcastInDim S32768x1 ![0] bcast_S32768_S32768x1_0 (Host.reduceAdd (mulf (ikCentred m c) (ikCentred m c)) (constant S_ .f32 0x00000000#32) reducesTo_S32768x64_S32768_d1 h_S_)) (broadcastInDim S32768x1 ![] bcast_S_S32768x1 (constant S_ .f32 0x42800000#32))) (broadcastInDim S32768x1 ![] bcast_S_S32768x1 (constant S_ .f32 0x358637BD#32)))))) (broadcastInDim S32768x64 ![0, 1] bcast_S1x64_S32768x64_0_1 (broadcastInDim S1x64 ![1] bcast_S64_S1x64_1 (m ((c.tc : Thread nD τ).loc main_arg3))))) (broadcastInDim S32768x64 ![0, 1] bcast_S1x64_S32768x64_0_1 (broadcastInDim S1x64 ![1] bcast_S64_S1x64_1 (m ((c.tc : Thread nD τ).loc main_arg4))))) bitsLt_bf16_f32

variable (m : (ℓ : Loc nD τ sig) → Buf (Elt Ideal) ℓ) (c : Dev nD) (n : Fin 32768)

/-- The arguments as one memory holds them on one device. -/
def argsOf : Args where
  x := m ((c.tc : Thread nD τ).loc main_arg0)
  g := m ((c.tc : Thread nD τ).loc main_arg1)
  kvg := m ((c.tc : Thread nD τ).loc main_arg2)
  ikg := m ((c.tc : Thread nD τ).loc main_arg3)
  ikb := m ((c.tc : Thread nD τ).loc main_arg4)
  wq := m ((c.tc : Thread nD τ).loc main_arg5)
  wckv := m ((c.tc : Thread nD τ).loc main_arg6)
  wiq := m ((c.tc : Thread nD τ).loc main_arg7)
  wsm := m ((c.tc : Thread nD τ).loc main_arg8)
  wb := m ((c.tc : Thread nD τ).loc main_arg9)
  wz := m ((c.tc : Thread nD τ).loc main_arg10)
  wxbc := m ((c.tc : Thread nD τ).loc main_arg11)
  wdt := m ((c.tc : Thread nD τ).loc main_arg12)
  wuv := m ((c.tc : Thread nD τ).loc main_arg13)
  scw := m ((c.tc : Thread nD τ).loc main_arg14)
  cw := m ((c.tc : Thread nD τ).loc main_arg15)
  cb := m ((c.tc : Thread nD τ).loc main_arg16)
  dtb := m ((c.tc : Thread nD τ).loc main_arg17)
  alog := m ((c.tc : Thread nD τ).loc main_arg18)
  d := m ((c.tc : Thread nD τ).loc main_arg19)
  nw := m ((c.tc : Thread nD τ).loc main_arg20)

/-- The normalised rows, read at an index. -/
theorem normed_apply (k : Fin 1024) : (normed m c : S32768x1024.Idx → EReal) (ix2 n k) = hid (argsOf m c) n k := by
  unfold normed
  pointwise [hid, Cert.Dense.rms]
  rfl

/-- The compressed keys and values before their normalisation, read at an index. -/
theorem keyProj_apply (j : Fin 256) : (keyProj m c : S32768x256.Idx → EReal) (ix2 n j) = proj (argsOf m c) n (argsOf m c).wckv j := by
  unfold keyProj
  pointwise [proj, normed_apply]
  rfl

/-- The product that holds the index keys and weights, read at an index. -/
theorem smallProj_apply (j : Fin 128) : (smallProj m c : S32768x128.Idx → EReal) (ix2 n j) = proj (argsOf m c) n (argsOf m c).wsm j := by
  unfold smallProj
  pointwise [proj, normed_apply]
  rfl

/-- The compressed keys and values, read at an index. -/
theorem keyRows_apply (j : Fin 256) : (keyRows m c : S32768x256.Idx → EReal) (ix2 n j) = ckv (argsOf m c) n j := by
  unfold keyRows
  pointwise [ckv, keyProj_apply]
  rfl

/-- The index keys before their normalisation, read at an index. -/
theorem ikRows_apply (j : Fin 64) : (ikRows m c : S32768x64.Idx → EReal) (ix2 n j) = ikRow (argsOf m c) n j := by
  unfold ikRows
  pointwise [ikRow, smallProj_apply]

/-- Their mean, read at a token. -/
theorem ikMeans_apply : (ikMeans m c : S32768x1.Idx → EReal) (ix2 n 0) = ikMean (argsOf m c) n := by
  unfold ikMeans
  pointwise [ikMean, ikRows_apply]

/-- The index keys less their mean, read at an index. -/
theorem ikCentred_apply (j : Fin 64) : (ikCentred m c : S32768x64.Idx → EReal) (ix2 n j) = ikRow (argsOf m c) n j - ikMean (argsOf m c) n := by
  unfold ikCentred
  pointwise [ikRows_apply, ikMeans_apply]

/-- The reference's queries. -/
theorem q_eq : resQ m c = outQ (argsOf m c) := by
  unfold resQ
  funext i
  idx_vars i
  pointwise [outQ, tile, proj, normed_apply]
  rfl

/-- The reference's compressed keys and values. -/
theorem ckv_eq : resCkv m c = outCkv (argsOf m c) := by
  unfold resCkv
  funext i
  idx_vars i
  pointwise [outCkv, keyRows_apply]

/-- The reference's values by heads. -/
theorem v_eq : resV m c = outV (argsOf m c) := by
  unfold resV
  funext i
  idx_vars i
  pointwise [outV, val, keyRows_apply]
  have e : (i0.val * 16 + i1.val) * 256 + i3.val = i0.val * 4096 + i1.val * 256 + i3.val := by ring
  simp only [e]
  by_cases h : i2.val % 80 < 64
  · rw [dif_pos h, dif_pos h]
    rfl
  · rw [dif_neg h, dif_neg h]
    show (if h : i2.val % 80 - 64 < 1 then (1 : EReal) else 0) = if i2.val % 80 = 64 then (1 : EReal) else 0
    by_cases h' : i2.val % 80 = 64
    · rw [if_pos h', dif_pos (by omega)]
    · rw [if_neg h', dif_neg (by omega)]

/-- The reference's queries of the index heads. -/
theorem iq_eq : resIq m c = outIq (argsOf m c) := by
  unfold resIq
  funext i
  idx_vars i
  pointwise [outIq, tile, iq, proj, normed_apply]
  rfl

/-- The reference's weights of the index heads. -/
theorem iw_eq : resIw m c = outIw (argsOf m c) := by
  unfold resIw
  funext i
  idx_vars i
  pointwise [outIw, tile, iw, smallProj_apply]

/-- The reference's index keys. -/
theorem ik_eq : resIk m c = outIk (argsOf m c) := by
  unfold resIk
  funext i
  idx_vars i
  pointwise [outIk, ik, ikRows_apply, ikMeans_apply, ikCentred_apply]
  rfl

/-- The reference leaves the six arrays of `MixerSpec` of its arguments in its results, and its arguments as they were. -/
theorem run_results (ρ : Dev nD → PrngReg) :
    θ_run defs (onTc (τ := τ) (main (F := Ideal))) ⟨m, fun _ => 0, ρ⟩ fun r => ∀ c : Dev nD,
      r.2.mem ((c.tc : Thread nD τ).loc main_v70) = outQ (argsOf m c)
      ∧ r.2.mem ((c.tc : Thread nD τ).loc main_v71) = outCkv (argsOf m c)
      ∧ r.2.mem ((c.tc : Thread nD τ).loc main_v75) = outV (argsOf m c)
      ∧ r.2.mem ((c.tc : Thread nD τ).loc main_v78) = outIq (argsOf m c)
      ∧ r.2.mem ((c.tc : Thread nD τ).loc main_v80) = outIw (argsOf m c)
      ∧ r.2.mem ((c.tc : Thread nD τ).loc main_v81) = outIk (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  refine θ_run_mono (Value.run m ρ) fun r h c => ?_
  obtain ⟨h0, h1, h2, h3, h4, h5, h⟩ := h c
  exact ⟨h0.trans (q_eq m c), h1.trans (ckv_eq m c), h2.trans (v_eq m c), h3.trans (iq_eq m c), h4.trans (iw_eq m c), h5.trans (ik_eq m c), h⟩

end Cert.Mixer.Ref
-- ==== Proof.lean ====
/-
  The proof of `Cert.Claim`. The dense call: its frames are the generated runs, and the value claim meets the kernel's result array
  (DenseArray.lean) with the reference's (DenseRef.lean) row by row. The projection call: its frames are the runs of BitFrame.lean and
  MixFrame.lean, and the value claim meets the kernel's six result arrays (MixOut.lean) with the reference's (MixerRef.lean). `preserves`
  holds because no operation of the programs was replaced.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.DenseArray
public import proofs.«01_k».proof.Proof.DenseRef
public import proofs.«01_k».proof.Proof.BitFrame
public import proofs.«01_k».proof.Proof.MixFrame
public import proofs.«01_k».proof.Proof.MixValue
public import proofs.«01_k».proof.Proof.MixOut
public import proofs.«01_k».proof.Proof.MixerRef
public import Idealize.ShloMosaic.Adequacy
public import Idealize.ShloMosaic.Init

@[expose] public section

noncomputable section

namespace Cert.Proof

open Idealize.ShloMosaic Idealize.SL.Sem Cert.Kernel

/-- The reference, a program of host operations only, leaves its arguments alone and every counter at zero. -/
theorem quiescent_reference : Cert.quiescent_ReferenceIdeal := by
  unfold Cert.quiescent_ReferenceIdeal
  intro m g _
  refine θ_run_mono (Cert.ReferenceIdeal.Value.run m g) fun r h => ?_
  exact ⟨fun c => (h c).2, sem_eq_zero_of_no_sems rfl _⟩

/-- The kernel's result array is the reference's. -/
theorem algebraic_dense : Cert.algebraic_KernelIdeal_ReferenceIdeal := by
  unfold Cert.algebraic_KernelIdeal_ReferenceIdeal
  intro m g m' g' _ hag
  refine ⟨fun c => Cert.Dense.Arr.result m c, ?_, ?_⟩
  · refine θ_run_mono (Cert.KernelIdeal.Value.run_blocks m g) fun r h c => ?_
    exact ⟨(h c).1.trans (Cert.Dense.Arr.arr_eq m c), (h c).2⟩
  · refine θ_run_mono (Cert.ReferenceIdeal.Value.run m' g') fun r h c => ?_
    refine ⟨(h c).1.trans ?_, (h c).2⟩
    obtain ⟨h0, h1, h2, h3, h4, h5, h6, h7, h8, h9, h10, h11, h12, h13⟩ := hag c
    have hA : Cert.Dense.Ref.argsOf (StableHlo.launchContents m' c) = Cert.Dense.Arr.argsOf m c := by
      delta Cert.Dense.Ref.argsOf Cert.Dense.Arr.argsOf
      rw [← h0, ← h1, ← h2, ← h3, ← h4, ← h5, ← h6, ← h7, ← h8, ← h9, ← h10, ← h11, ← h12, ← h13]
    funext i
    obtain ⟨n, j, rfl⟩ : ∃ (n : Fin 32768) (j : Fin 1024), i = ix2 n j := ⟨i 0, i 1, eq_ix2 i⟩
    exact (Cert.Dense.Ref.result_apply (StableHlo.launchContents m' c) n _ rfl j).trans (congrArg (fun A => Cert.Dense.tailOf A n j) hA)

/-- The projections' reference, a program of host operations only, leaves its arguments alone and every counter at zero. -/
theorem quiescent_reference2 : Cert.quiescent_Reference2Ideal := by
  unfold Cert.quiescent_Reference2Ideal
  intro m g _
  refine θ_run_mono (Cert.Reference2Ideal.Value.run m g) fun r h => ?_
  refine ⟨fun c => ?_, sem_eq_zero_of_no_sems rfl _⟩
  obtain ⟨-, -, -, -, -, -, h⟩ := h c
  exact h

set_option maxHeartbeats 4000000 in
/-- The six arrays that the attention reads are the reference's. -/
theorem algebraic_projections : Cert.algebraic_Kernel2Ideal_Reference2Ideal := by
  unfold Cert.algebraic_Kernel2Ideal_Reference2Ideal
  intro m g m' g' _ hag
  refine ⟨fun c => Cert.Mixer.outQ (Cert.Mixer.Arr.argsOf m c), fun c => Cert.Mixer.outCkv (Cert.Mixer.Arr.argsOf m c),
    fun c => Cert.Mixer.outV (Cert.Mixer.Arr.argsOf m c), fun c => Cert.Mixer.outIq (Cert.Mixer.Arr.argsOf m c),
    fun c => Cert.Mixer.outIw (Cert.Mixer.Arr.argsOf m c), fun c => Cert.Mixer.outIk (Cert.Mixer.Arr.argsOf m c), ?_, ?_⟩
  · refine θ_run_mono (Cert.Kernel2Ideal.Own.run_blocks m g) fun r h c => ?_
    obtain ⟨h0, h1, h2, h3, h4, h5, -, -, h⟩ := h c
    exact ⟨h0.trans (Cert.Mixer.Arr.arr29 m c), h1.trans (Cert.Mixer.Arr.arr30 m c), h2.trans (Cert.Mixer.Arr.arr31 m c),
      h3.trans (Cert.Mixer.Arr.arr32 m c), h4.trans (Cert.Mixer.Arr.arr33 m c), h5.trans (Cert.Mixer.Arr.arr34 m c), h⟩
  · refine θ_run_mono (Cert.Mixer.Ref.run_results m' g') fun r h c => ?_
    have hA : Cert.Mixer.Ref.argsOf m' c = Cert.Mixer.Arr.argsOf m c := by
      obtain ⟨h0, h1, h2, h3, h4, h5, h6, h7, h8, h9, h10, h11, h12, h13, h14, h15, h16, h17, h18, h19, h20⟩ := hag c
      delta Cert.Mixer.Ref.argsOf Cert.Mixer.Arr.argsOf
      rw [← h0, ← h1, ← h2, ← h3, ← h4, ← h5, ← h6, ← h7, ← h8, ← h9, ← h10,
        ← h11, ← h12, ← h13, ← h14, ← h15, ← h16, ← h17, ← h18, ← h19, ← h20]
    have h := h c
    rw [hA] at h
    exact h

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Gen.frame m ρ, fun m ρ _ => Cert.KernelIdeal.Gen.frame m ρ, quiescent_reference,
  fun m ρ _ => Cert.Kernel2.Own.frame m ρ, fun m ρ _ => Cert.Kernel2Ideal.Own.frame m ρ, quiescent_reference2,
  trivial, algebraic_dense, trivial, algebraic_projections⟩

end Cert.Proof
